-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Kernel.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S48x2048 : Shape := ⟨2, ![48, 2048]⟩
abbrev S48 : Shape := ⟨1, ![48]⟩
abbrev S48x1 : Shape := ⟨2, ![48, 1]⟩

abbrev nBuf : Space → Nat
  | .hbm => 12
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![65, 11], ![false, false]⟩

def k0_cond2 (i : grid0.Coords) : BitVec 1 :=
  let arg0 : BitVec 32 := BitVec.ofNat 32 (i 0).val
  let c64_i32 : BitVec 32 := 64#32
  let v16 : BitVec 1 := Scalar.cmpi .slt arg0 c64_i32
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v17 : BitVec 1 := Scalar.andi v16 v15
  let v18 : BitVec 32 := Scalar.extui v17
  let c0_i32_7 : BitVec 32 := 0#32
  let v19 : BitVec 1 := Scalar.cmpi .ne v18 c0_i32_7
  v19

def k0_mult1 (i : grid0.Coords) : BitVec 32 :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  v63
def k0_off1 (i : grid0.Coords) : Fin 2 → Nat :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  let v64 : BitVec 32 := v63
  let v65 : Index := Scalar.indexCast v64
  let c0_33 : Index := 0#32
  ![v65.toNat, 0]
def k0_cond4 (i : grid0.Coords) : BitVec 1 :=
  let arg0 : BitVec 32 := BitVec.ofNat 32 (i 0).val
  let c64_i32_8 : BitVec 32 := 64#32
  let v20 : BitVec 1 := Scalar.cmpi .slt arg0 c64_i32_8
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v_true : BitVec 1 := 1#1
  let v21 : BitVec 1 := Scalar.xori v15 v_true
  let v22 : BitVec 1 := Scalar.andi v20 v21
  let v23 : BitVec 32 := Scalar.extui v22
  let c0_i32_9 : BitVec 32 := 0#32
  let v24 : BitVec 1 := Scalar.cmpi .ne v23 c0_i32_9
  v24

def k0_mult2 (i : grid0.Coords) : BitVec 32 :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  v63
def k0_off2 (i : grid0.Coords) : Fin 2 → Nat :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  let v64 : BitVec 32 := v63
  let v65 : Index := Scalar.indexCast v64
  let c0_33 : Index := 0#32
  ![v65.toNat, 0]
def k0_cond6 (i : grid0.Coords) : BitVec 1 :=
  let arg0 : BitVec 32 := BitVec.ofNat 32 (i 0).val
  let c64_i32_10 : BitVec 32 := 64#32
  let v25 : BitVec 1 := Scalar.cmpi .eq arg0 c64_i32_10
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v26 : BitVec 1 := Scalar.andi v25 v15
  let v27 : BitVec 32 := Scalar.extui v26
  let c0_i32_11 : BitVec 32 := 0#32
  let v28 : BitVec 1 := Scalar.cmpi .ne v27 c0_i32_11
  v28

def k0_mult3 (i : grid0.Coords) : BitVec 32 :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  v35
def k0_off3 (i : grid0.Coords) : Fin 2 → Nat :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  let v36 : BitVec 32 := v35
  let v37 : Index := Scalar.indexCast v36
  let c0 : Index := 0#32
  ![v37.toNat, 0]
def k0_cond7 (i : grid0.Coords) : BitVec 1 :=
  let arg0 : BitVec 32 := BitVec.ofNat 32 (i 0).val
  let c64_i32_12 : BitVec 32 := 64#32
  let v29 : BitVec 1 := Scalar.cmpi .eq arg0 c64_i32_12
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let true_13 : BitVec 1 := 1#1
  let v30 : BitVec 1 := Scalar.xori v15 true_13
  let v31 : BitVec 1 := Scalar.andi v29 v30
  let v32 : BitVec 32 := Scalar.extui v31
  let c0_i32_14 : BitVec 32 := 0#32
  let v33 : BitVec 1 := Scalar.cmpi .ne v32 c0_i32_14
  v33

def k0_mult4 (i : grid0.Coords) : BitVec 32 :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  v35
def k0_off4 (i : grid0.Coords) : Fin 2 → Nat :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  let v36 : BitVec 32 := v35
  let v37 : Index := Scalar.indexCast v36
  let c0 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768x5632 : Shape := ⟨2, ![32768, 5632]⟩
abbrev S32768 : Shape := ⟨1, ![32768]⟩
abbrev S32768x1 : Shape := ⟨2, ![32768, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x5632, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel2.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S48x2048 : Shape := ⟨2, ![48, 2048]⟩
abbrev S48 : Shape := ⟨1, ![48]⟩
abbrev S48x1 : Shape := ⟨2, ![48, 1]⟩

abbrev nBuf : Space → Nat
  | .hbm => 13
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![65, 11], ![false, false]⟩

def k0_cond2 (i : grid0.Coords) : BitVec 1 :=
  let arg0 : BitVec 32 := BitVec.ofNat 32 (i 0).val
  let c64_i32 : BitVec 32 := 64#32
  let v16 : BitVec 1 := Scalar.cmpi .slt arg0 c64_i32
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v17 : BitVec 1 := Scalar.andi v16 v15
  let v18 : BitVec 32 := Scalar.extui v17
  let c0_i32_7 : BitVec 32 := 0#32
  let v19 : BitVec 1 := Scalar.cmpi .ne v18 c0_i32_7
  v19

def k0_mult1 (i : grid0.Coords) : BitVec 32 :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  v63
def k0_off1 (i : grid0.Coords) : Fin 2 → Nat :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  let v64 : BitVec 32 := v63
  let v65 : Index := Scalar.indexCast v64
  let c0_33 : Index := 0#32
  ![v65.toNat, 0]
def k0_cond4 (i : grid0.Coords) : BitVec 1 :=
  let arg0 : BitVec 32 := BitVec.ofNat 32 (i 0).val
  let c64_i32_8 : BitVec 32 := 64#32
  let v20 : BitVec 1 := Scalar.cmpi .slt arg0 c64_i32_8
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v_true : BitVec 1 := 1#1
  let v21 : BitVec 1 := Scalar.xori v15 v_true
  let v22 : BitVec 1 := Scalar.andi v20 v21
  let v23 : BitVec 32 := Scalar.extui v22
  let c0_i32_9 : BitVec 32 := 0#32
  let v24 : BitVec 1 := Scalar.cmpi .ne v23 c0_i32_9
  v24

def k0_mult2 (i : grid0.Coords) : BitVec 32 :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  v63
def k0_off2 (i : grid0.Coords) : Fin 2 → Nat :=
  let arg1 : BitVec 32 := BitVec.ofNat 32 (i 1).val
  let c48_i32 : BitVec 32 := 48#32
  let v62 : BitVec 32 := Scalar.muli arg1 c48_i32
  let c464_i32 : BitVec 32 := 464#32
  let v63 : BitVec 32 := Scalar.minsi v62 c464_i32
  let v64 : BitVec 32 := v63
  let v65 : Index := Scalar.indexCast v64
  let c0_33 : Index := 0#32
  ![v65.toNat, 0]
def k0_cond6 (i : grid0.Coords) : BitVec 1 :=
  let arg0 : BitVec 32 := BitVec.ofNat 32 (i 0).val
  let c64_i32_10 : BitVec 32 := 64#32
  let v25 : BitVec 1 := Scalar.cmpi .eq arg0 c64_i32_10
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v26 : BitVec 1 := Scalar.andi v25 v15
  let v27 : BitVec 32 := Scalar.extui v26
  let c0_i32_11 : BitVec 32 := 0#32
  let v28 : BitVec 1 := Scalar.cmpi .ne v27 c0_i32_11
  v28

def k0_mult3 (i : grid0.Coords) : BitVec 32 :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  v35
def k0_off3 (i : grid0.Coords) : Fin 2 → Nat :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  let v36 : BitVec 32 := v35
  let v37 : Index := Scalar.indexCast v36
  let c0 : Index := 0#32
  ![v37.toNat, 0]
def k0_cond7 (i : grid0.Coords) : BitVec 1 :=
  let arg0 : BitVec 32 := BitVec.ofNat 32 (i 0).val
  let c64_i32_12 : BitVec 32 := 64#32
  let v29 : BitVec 1 := Scalar.cmpi .eq arg0 c64_i32_12
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let true_13 : BitVec 1 := 1#1
  let v30 : BitVec 1 := Scalar.xori v15 true_13
  let v31 : BitVec 1 := Scalar.andi v29 v30
  let v32 : BitVec 32 := Scalar.extui v31
  let c0_i32_14 : BitVec 32 := 0#32
  let v33 : BitVec 1 := Scalar.cmpi .ne v32 c0_i32_14
  v33

def k0_mult4 (i : grid0.Coords) : BitVec 32 :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  v35
def k0_off4 (i : grid0.Coords) : Fin 2 → Nat :=
  let arg1 : BitVec 32 := BitVec.ofNat 32 (i 1).val
  let c48_i32 : BitVec 32 := 48#32
  let v34 : BitVec 32 := Scalar.muli arg1 c48_i32
  let c464_i32 : BitVec 32 := 464#32
  let v35 : BitVec 32 := Scalar.minsi v34 c464_i32
  let v36 : BitVec 32 := v35
  let v37 : Index := Scalar.indexCast v36
  let c0 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg0 c64_i32
  let c10_i32 : BitVec 32 := 10#32
  let v1 : BitVec 32 := Scalar.select v0 c10_i32 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S32768x5632 : Shape := ⟨2, ![32768, 5632]⟩
abbrev S32768 : Shape := ⟨1, ![32768]⟩
abbrev S32768x1 : Shape := ⟨2, ![32768, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x5632, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | .hbm, ⟨55, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S32768x1024 : Shape := ⟨2, ![32768, 1024]⟩
abbrev S32768x7168 : Shape := ⟨2, ![32768, 7168]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩

abbrev nBuf : Space → Nat
  | .hbm => 15
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c128_i32 : BitVec 32 := 128#32
  let v14 : BitVec 1 := Scalar.cmpi .slt arg0 c128_i32
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v15 : BitVec 1 := Scalar.andi v14 v13
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c128_i32_7 : BitVec 32 := 128#32
  let v18 : BitVec 1 := Scalar.cmpi .slt arg0 c128_i32_7
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v19 : BitVec 1 := Scalar.xori v13 v_true
  let v20 : BitVec 1 := Scalar.andi v18 v19
  let v21 : BitVec 32 := Scalar.extui v20
  let c0_i32_8 : BitVec 32 := 0#32
  let v22 : BitVec 1 := Scalar.cmpi .ne v21 c0_i32_8
  v22

def k0_cond4 (i : grid0.Coords) : BitVec 1 :=
  let arg0 : BitVec 32 := BitVec.ofNat 32 (i 0).val
  let c128_i32_9 : BitVec 32 := 128#32
  let v23 : BitVec 1 := Scalar.cmpi .eq arg0 c128_i32_9
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v24 : BitVec 1 := Scalar.andi v23 v13
  let v25 : BitVec 32 := Scalar.extui v24
  let c0_i32_10 : BitVec 32 := 0#32
  let v26 : BitVec 1 := Scalar.cmpi .ne v25 c0_i32_10
  v26

def k0_cond5 (i : grid0.Coords) : BitVec 1 :=
  let arg0 : BitVec 32 := BitVec.ofNat 32 (i 0).val
  let c128_i32_11 : BitVec 32 := 128#32
  let v27 : BitVec 1 := Scalar.cmpi .eq arg0 c128_i32_11
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let true_12 : BitVec 1 := 1#1
  let v28 : BitVec 1 := Scalar.xori v13 true_12
  let v29 : BitVec 1 := Scalar.andi v27 v28
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c6_i32 : BitVec 32 := 6#32
  let c0_i32 : BitVec 32 := 0#32
  ![v0.toNat, c6_i32.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x7168 : Shape := ⟨2, ![32768, 7168]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S32768x1024, .f32⟩
  | .hbm, ⟨10, _⟩ => ⟨S32768x1024, .f32⟩
  | .hbm, ⟨11, _⟩ => ⟨S32768x7168, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x2048, .f32⟩
  | .hbm, ⟨62, _⟩ => ⟨S32768x2048, .f32⟩
  | .hbm, ⟨63, _⟩ => ⟨S1x2048, .f32⟩
  | .hbm, ⟨64, _⟩ => ⟨S32768x2048, .f32⟩
  | .hbm, ⟨65, _⟩ => ⟨S32768x2048, .f32⟩
  | .hbm, ⟨66, _⟩ => ⟨S1x2048, .f32⟩
  | .hbm, ⟨67, _⟩ => ⟨S32768x2048, .f32⟩
  | .hbm, ⟨68, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel4.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S256x2048, .f32⟩
  | .hbm, ⟨4, _⟩ => ⟨S2048x2048, .bf16⟩
  | .hbm, ⟨5, _⟩ => ⟨S256x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S2048x2048, .bf16⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048x2048, .f32⟩
  | .hbm, ⟨3, _⟩ => ⟨S256x2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel5.lean ====
abbrev S32768x2048 : Shape := ⟨2, ![32768, 2048]⟩
abbrev S2048x11272 : Shape := ⟨2, ![2048, 11272]⟩
abbrev S_ : Shape := ⟨0, ![]⟩
abbrev S2048x120 : Shape := ⟨2, ![2048, 120]⟩
abbrev S2048x8 : Shape := ⟨2, ![2048, 8]⟩
abbrev S2048x128 : Shape := ⟨2, ![2048, 128]⟩
abbrev S2048x4096 : Shape := ⟨2, ![2048, 4096]⟩
abbrev S32768x4096 : Shape := ⟨2, ![32768, 4096]⟩
abbrev S32768x128 : Shape := ⟨2, ![32768, 128]⟩
abbrev S2048x2048 : Shape := ⟨2, ![2048, 2048]⟩
abbrev S2048x1024 : Shape := ⟨2, ![2048, 1024]⟩

abbrev nBuf : Space → Nat
  | .hbm => 11
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S2048x11272, .f32⟩
  | .hbm, ⟨2, _⟩ => ⟨S_, .bf16⟩
  | .hbm, ⟨3, _⟩ => ⟨S2048x120, .bf16⟩
  | .hbm, ⟨4, _⟩ => ⟨S2048x8, .f32⟩
  | .hbm, ⟨5, _⟩ => ⟨S2048x8, .bf16⟩
  | .hbm, ⟨6, _⟩ => ⟨S2048x128, .bf16⟩
  | .hbm, ⟨7, _⟩ => ⟨S2048x4096, .f32⟩
  | .hbm, ⟨8, _⟩ => ⟨S2048x4096, .bf16⟩
  | .hbm, ⟨9, _⟩ => ⟨S32768x4096, .bf16⟩
  | .hbm, ⟨10, _⟩ => ⟨S32768x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .f32⟩
  | .local _ .vmem, ⟨8, _⟩ => ⟨S2048x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S32768x2048 : Shape := ⟨2, ![32768, 2048]⟩
abbrev S2048x11272 : Shape := ⟨2, ![2048, 11272]⟩
abbrev S32768x11272 : Shape := ⟨2, ![32768, 11272]⟩
abbrev S32768x4096 : Shape := ⟨2, ![32768, 4096]⟩
abbrev S32768x8 : Shape := ⟨2, ![32768, 8]⟩
abbrev S_ : Shape := ⟨0, ![]⟩
abbrev S32768x128 : Shape := ⟨2, ![32768, 128]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11272, .f32⟩
  | .hbm, ⟨2, _⟩ => ⟨S32768x2048, .f32⟩
  | .hbm, ⟨3, _⟩ => ⟨S32768x11272, .f32⟩
  | .hbm, ⟨4, _⟩ => ⟨S32768x4096, .f32⟩
  | .hbm, ⟨5, _⟩ => ⟨S32768x4096, .bf16⟩
  | .hbm, ⟨6, _⟩ => ⟨S32768x8, .f32⟩
  | .hbm, ⟨7, _⟩ => ⟨S_, .i32⟩
  | .hbm, ⟨8, _⟩ => ⟨S_, .f32⟩
  | .hbm, ⟨9, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S32768x2048 : Shape := ⟨2, ![32768, 2048]⟩
abbrev S2048x11272 : Shape := ⟨2, ![2048, 11272]⟩
abbrev S2048x7168 : Shape := ⟨2, ![2048, 7168]⟩
abbrev S32768x7168 : Shape := ⟨2, ![32768, 7168]⟩
abbrev S2048x2048 : Shape := ⟨2, ![2048, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x11272, .f32⟩
  | .hbm, ⟨2, _⟩ => ⟨S2048x7168, .f32⟩
  | .hbm, ⟨3, _⟩ => ⟨S2048x7168, .bf16⟩
  | .hbm, ⟨4, _⟩ => ⟨S32768x7168, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x11272 : Shape := ⟨2, ![2048, 11272]⟩
abbrev S32768x11272 : Shape := ⟨2, ![32768, 11272]⟩
abbrev S32768x7168 : Shape := ⟨2, ![32768, 7168]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11272, .f32⟩
  | .hbm, ⟨2, _⟩ => ⟨S32768x2048, .f32⟩
  | .hbm, ⟨3, _⟩ => ⟨S32768x11272, .f32⟩
  | .hbm, ⟨4, _⟩ => ⟨S32768x7168, .f32⟩
  | .hbm, ⟨5, _⟩ => ⟨S32768x7168, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4x8192x4096 : Shape := ⟨3, ![4, 8192, 4096]⟩
abbrev S4x8192x128 : Shape := ⟨3, ![4, 8192, 128]⟩
abbrev S8 : Shape := ⟨1, ![8]⟩
abbrev S4x2048 : Shape := ⟨2, ![4, 2048]⟩
abbrev S1024 : Shape := ⟨1, ![1024]⟩
abbrev S_ : Shape := ⟨0, ![]⟩
abbrev S120 : Shape := ⟨1, ![120]⟩
abbrev S128 : Shape := ⟨1, ![128]⟩
abbrev S1x128 : Shape := ⟨2, ![1, 128]⟩
abbrev S1x1024 : Shape := ⟨2, ![1, 1024]⟩
abbrev S4x8192x1024 : Shape := ⟨3, ![4, 8192, 1024]⟩
abbrev S1x256x1024 : Shape := ⟨3, ![1, 256, 1024]⟩
abbrev S1x256x128 : Shape := ⟨3, ![1, 256, 128]⟩
abbrev S16x2048 : Shape := ⟨2, ![16, 2048]⟩
abbrev S768x256 : Shape := ⟨2, ![768, 256]⟩
abbrev S256x2048 : Shape := ⟨2, ![256, 2048]⟩
abbrev S4x256x256 : Shape := ⟨3, ![4, 256, 256]⟩
abbrev S4x1x256 : Shape := ⟨3, ![4, 1, 256]⟩
abbrev S8x128 : Shape := ⟨2, ![8, 128]⟩
abbrev S8x2048 : Shape := ⟨2, ![8, 2048]⟩
abbrev S1x256x256 : Shape := ⟨3, ![1, 256, 256]⟩
abbrev S256x256 : Shape := ⟨2, ![256, 256]⟩
abbrev S1x256 : Shape := ⟨2, ![1, 256]⟩
abbrev S1x16x1024 : Shape := ⟨3, ![1, 16, 1024]⟩
abbrev S16x1024 : Shape := ⟨2, ![16, 1024]⟩
abbrev S8x1024 : Shape := ⟨2, ![8, 1024]⟩
abbrev S1x2048 : Shape := ⟨2, ![1, 2048]⟩
abbrev S256x128 : Shape := ⟨2, ![256, 128]⟩
abbrev S128x256 : Shape := ⟨2, ![128, 256]⟩
abbrev S256x1 : Shape := ⟨2, ![256, 1]⟩
abbrev S1x1 : Shape := ⟨2, ![1, 1]⟩
abbrev S256 : Shape := ⟨1, ![256]⟩
abbrev S1x1x256 : Shape := ⟨3, ![1, 1, 256]⟩
abbrev S1 : Shape := ⟨1, ![1]⟩

abbrev nBuf : Space → Nat
  | .hbm => 11
  | .vmem => 21
  | .smem => 0
  | _ => 0

abbrev bufTy : (tb : Table) → Fin (tcTables nBuf tb) → BufTy
  | .hbm, ⟨0, _⟩ => ⟨S4x8192x4096, .bf16⟩
  | .hbm, ⟨1, _⟩ => ⟨S4x8192x128, .f32⟩
  | .hbm, ⟨2, _⟩ => ⟨S8, .f32⟩
  | .hbm, ⟨3, _⟩ => ⟨S4x2048, .f32⟩
  | .hbm, ⟨4, _⟩ => ⟨S1024, .f32⟩
  | .hbm, ⟨5, _⟩ => ⟨S_, .f32⟩
  | .hbm, ⟨6, _⟩ => ⟨S120, .f32⟩
  | .hbm, ⟨7, _⟩ => ⟨S128, .f32⟩
  | .hbm, ⟨8, _⟩ => ⟨S1x128, .f32⟩
  | .hbm, ⟨9, _⟩ => ⟨S1x1024, .f32⟩
  | .hbm, ⟨10, _⟩ => ⟨S4x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S4x2048, .f32⟩
  | .local _ .vmem, ⟨12, _⟩ => ⟨S1x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S16x2048, .f32⟩
  | .local _ .vmem, ⟨16, _⟩ => ⟨S768x256, .bf16⟩
  | .local _ .vmem, ⟨17, _⟩ => ⟨S256x2048, .f32⟩
  | .local _ .vmem, ⟨18, _⟩ => ⟨S4x256x256, .f32⟩
  | .local _ .vmem, ⟨19, _⟩ => ⟨S4x1x256, .f32⟩
  | .local _ .vmem, ⟨20, _⟩ => ⟨S8x128, .f32⟩
  | _, _ => ⟨S4x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S4x8192x4096 : Shape := ⟨3, ![4, 8192, 4096]⟩
abbrev S4x8192x128 : Shape := ⟨3, ![4, 8192, 128]⟩
abbrev S8 : Shape := ⟨1, ![8]⟩
abbrev S4x2048 : Shape := ⟨2, ![4, 2048]⟩
abbrev S1024 : Shape := ⟨1, ![1024]⟩
abbrev S4x8192x1024 : Shape := ⟨3, ![4, 8192, 1024]⟩
abbrev S4x8192x2048 : Shape := ⟨3, ![4, 8192, 2048]⟩
abbrev S_ : Shape := ⟨0, ![]⟩
abbrev S4x8195x2048 : Shape := ⟨3, ![4, 8195, 2048]⟩
abbrev S1x2048 : Shape := ⟨2, ![1, 2048]⟩
abbrev S2048 : Shape := ⟨1, ![2048]⟩
abbrev S1x1x2048 : Shape := ⟨3, ![1, 1, 2048]⟩
abbrev S4x8192x4 : Shape := ⟨3, ![4, 8192, 4]⟩
abbrev S4 : Shape := ⟨1, ![4]⟩
abbrev S1x1x4 : Shape := ⟨3, ![1, 1, 4]⟩
abbrev S4x4x8192 : Shape := ⟨3, ![4, 4, 8192]⟩
abbrev S4x8192x4x256 : Shape := ⟨4, ![4, 8192, 4, 256]⟩
abbrev S4x4x8192x256 : Shape := ⟨4, ![4, 4, 8192, 256]⟩
abbrev S4x4x128x64x256 : Shape := ⟨5, ![4, 4, 128, 64, 256]⟩
abbrev S128x4x4x64x256 : Shape := ⟨5, ![128, 4, 4, 64, 256]⟩
abbrev S4x4x128x64 : Shape := ⟨4, ![4, 4, 128, 64]⟩
abbrev S128x4x4x64 : Shape := ⟨4, ![128, 4, 4, 64]⟩
abbrev S64x64 : Shape := ⟨2, ![64, 64]⟩
abbrev S4x4x256x256 : Shape := ⟨4, ![4, 4, 256, 256]⟩
abbrev S4x4x256 : Shape := ⟨3, ![4, 4, 256]⟩
abbrev S4x4 : Shape := ⟨2, ![4, 4]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x256 : Shape := ⟨2, ![4, 256]⟩
abbrev S4x8192x4x1 : Shape := ⟨4, ![4, 8192, 4, 1]⟩
abbrev S1x1x4x256 : Shape := ⟨4, ![1, 1, 4, 256]⟩

abbrev nBuf : Space → Nat
  | .hbm => 287
  | .vmem => 0
  | .smem => 0
  | _ => 0

abbrev hbmTy0_0 (i : Nat) : BufTy := match i % 128 with
  | 0 => ⟨S4x8192x4096, .bf16⟩
  | 1 => ⟨S4x8192x128, .f32⟩
  | 2 => ⟨S8, .f32⟩
  | 3 => ⟨S4x2048, .f32⟩
  | 4 => ⟨S1024, .f32⟩
  | 5 => ⟨S4x8192x4096, .f32⟩
  | 6 => ⟨S4x8192x1024, .f32⟩
  | 7 => ⟨S4x8192x1024, .f32⟩
  | 8 => ⟨S4x8192x1024, .f32⟩
  | 9 => ⟨S4x8192x1024, .f32⟩
  | 10 => ⟨S4x8192x2048, .f32⟩
  | 11 => ⟨S_, .i32⟩
  | 12 => ⟨S_, .f32⟩
  | 13 => ⟨S4x8195x2048, .f32⟩
  | 14 => ⟨S4x8192x2048, .f32⟩
  | 15 => ⟨S1x2048, .f32⟩
  | 16 => ⟨S2048, .f32⟩
  | 17 => ⟨S1x1x2048, .f32⟩
  | 18 => ⟨S4x8192x2048, .f32⟩
  | 19 => ⟨S4x8192x2048, .f32⟩
  | 20 => ⟨S4x8192x2048, .f32⟩
  | 21 => ⟨S1x2048, .f32⟩
  | 22 => ⟨S2048, .f32⟩
  | 23 => ⟨S1x1x2048, .f32⟩
  | 24 => ⟨S4x8192x2048, .f32⟩
  | 25 => ⟨S4x8192x2048, .f32⟩
  | 26 => ⟨S4x8192x2048, .f32⟩
  | 27 => ⟨S4x8192x2048, .f32⟩
  | 28 => ⟨S1x2048, .f32⟩
  | 29 => ⟨S2048, .f32⟩
  | 30 => ⟨S1x1x2048, .f32⟩
  | 31 => ⟨S4x8192x2048, .f32⟩
  | 32 => ⟨S4x8192x2048, .f32⟩
  | 33 => ⟨S4x8192x2048, .f32⟩
  | 34 => ⟨S4x8192x2048, .f32⟩
  | 35 => ⟨S1x2048, .f32⟩
  | 36 => ⟨S2048, .f32⟩
  | 37 => ⟨S1x1x2048, .f32⟩
  | 38 => ⟨S4x8192x2048, .f32⟩
  | 39 => ⟨S4x8192x2048, .f32⟩
  | 40 => ⟨S4x8192x2048, .f32⟩
  | 41 => ⟨S4x8192x2048, .f32⟩
  | 42 => ⟨S4x8192x2048, .f32⟩
  | 43 => ⟨S_, .f32⟩
  | 44 => ⟨S4x8192x2048, .f32⟩
  | 45 => ⟨S4x8192x2048, .f32⟩
  | 46 => ⟨S_, .f32⟩
  | 47 => ⟨S4x8192x2048, .f32⟩
  | 48 => ⟨S4x8192x2048, .f32⟩
  | 49 => ⟨S4x8192x2048, .f32⟩
  | 50 => ⟨S4x8192x1024, .f32⟩
  | 51 => ⟨S4x8192x1024, .f32⟩
  | 52 => ⟨S4x8192x4, .f32⟩
  | 53 => ⟨S4, .f32⟩
  | 54 => ⟨S1x1x4, .f32⟩
  | 55 => ⟨S4x8192x4, .f32⟩
  | 56 => ⟨S4x8192x4, .f32⟩
  | 57 => ⟨S4x4x8192, .f32⟩
  | 58 => ⟨S4x8192x4, .f32⟩
  | 59 => ⟨S4, .f32⟩
  | 60 => ⟨S1x1x4, .f32⟩
  | 61 => ⟨S4x8192x4, .f32⟩
  | 62 => ⟨S4x8192x4, .f32⟩
  | 63 => ⟨S4x8192x4, .f32⟩
  | 64 => ⟨S_, .f32⟩
  | 65 => ⟨S4x8192x4, .f32⟩
  | 66 => ⟨S4x8192x4, .f32⟩
  | 67 => ⟨S4x8192x4, .f32⟩
  | 68 => ⟨S4x8192x4, .f32⟩
  | 69 => ⟨S4x8192x4, .i1⟩
  | 70 => ⟨S4x8192x4, .f32⟩
  | 71 => ⟨S4x8192x4, .f32⟩
  | 72 => ⟨S4x8192x4, .f32⟩
  | 73 => ⟨S4x8192x4, .f32⟩
  | 74 => ⟨S4x8192x4, .f32⟩
  | 75 => ⟨S4x8192x4, .f32⟩
  | 76 => ⟨S4x8192x4, .f32⟩
  | 77 => ⟨S4x8192x4, .f32⟩
  | 78 => ⟨S4x8192x4, .f32⟩
  | 79 => ⟨S4x4x8192, .f32⟩
  | 80 => ⟨S4x8192x4x256, .f32⟩
  | 81 => ⟨S4x4x8192x256, .f32⟩
  | 82 => ⟨S4x8192x4x256, .f32⟩
  | 83 => ⟨S4x4x8192x256, .f32⟩
  | 84 => ⟨S_, .f32⟩
  | 85 => ⟨S4x4x8192x256, .f32⟩
  | 86 => ⟨S4x4x8192x256, .f32⟩
  | 87 => ⟨S4x8192x4x256, .f32⟩
  | 88 => ⟨S4x4x8192x256, .f32⟩
  | 89 => ⟨S4x4x128x64x256, .f32⟩
  | 90 => ⟨S128x4x4x64x256, .f32⟩
  | 91 => ⟨S4x4x128x64x256, .f32⟩
  | 92 => ⟨S128x4x4x64x256, .f32⟩
  | 93 => ⟨S4x4x128x64x256, .f32⟩
  | 94 => ⟨S128x4x4x64x256, .f32⟩
  | 95 => ⟨S4x4x128x64, .f32⟩
  | 96 => ⟨S128x4x4x64, .f32⟩
  | 97 => ⟨S4x4x128x64, .f32⟩
  | 98 => ⟨S128x4x4x64, .f32⟩
  | 99 => ⟨S_, .i1⟩
  | 100 => ⟨S64x64, .i1⟩
  | 101 => ⟨S64x64, .i32⟩
  | 102 => ⟨S_, .i32⟩
  | 103 => ⟨S64x64, .i32⟩
  | 104 => ⟨S64x64, .i32⟩
  | 105 => ⟨S64x64, .i32⟩
  | 106 => ⟨S64x64, .i1⟩
  | 107 => ⟨S_, .i1⟩
  | 108 => ⟨S64x64, .i1⟩
  | 109 => ⟨S64x64, .i1⟩
  | 110 => ⟨S_, .f32⟩
  | 111 => ⟨S4x4x256x256, .f32⟩
  | 112 => ⟨S_, .f32⟩
  | 113 => ⟨S4x4x256, .f32⟩
  | 114 => ⟨S_, .f32⟩
  | 115 => ⟨S4x4, .f32⟩
  | 116 => ⟨S_, .f32⟩
  | 117 => ⟨S128x4x4x64x256, .f32⟩
  | 118 => ⟨S_, .i32⟩
  | 119 => ⟨S128x4x4x64x256, .f32⟩
  | 120 => ⟨S128x4x4x64x256, .f32⟩
  | 121 => ⟨S128x4x4x64x256, .f32⟩
  | 122 => ⟨S128x4x4x64, .f32⟩
  | 123 => ⟨S128x4x4x64, .f32⟩
  | 124 => ⟨S64x64, .i1⟩
  | 125 => ⟨S_, .i32⟩
  | 126 => ⟨S4x4x256x256, .f32⟩
  | 127 => ⟨S4x4x256, .f32⟩
  | _ => ⟨S4x8192x4096, .bf16⟩

abbrev hbmTy0_1 (i : Nat) : BufTy := match i % 128 with
  | 0 => ⟨S4x4, .f32⟩
  | 1 => ⟨S128x4x4x64x256, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1x4x4x64x256, .f32⟩
  | 9 => ⟨S4x4x64x256, .f32⟩
  | 10 => ⟨S_, .i32⟩
  | 11 => ⟨S_, .i32⟩
  | 12 => ⟨S_, .i32⟩
  | 13 => ⟨S_, .i32⟩
  | 14 => ⟨S1x4x4x64x256, .f32⟩
  | 15 => ⟨S4x4x64x256, .f32⟩
  | 16 => ⟨S_, .i32⟩
  | 17 => ⟨S_, .i32⟩
  | 18 => ⟨S_, .i32⟩
  | 19 => ⟨S_, .i32⟩
  | 20 => ⟨S1x4x4x64x256, .f32⟩
  | 21 => ⟨S4x4x64x256, .f32⟩
  | 22 => ⟨S_, .i32⟩
  | 23 => ⟨S_, .i32⟩
  | 24 => ⟨S_, .i32⟩
  | 25 => ⟨S1x4x4x64, .f32⟩
  | 26 => ⟨S4x4x64, .f32⟩
  | 27 => ⟨S_, .i32⟩
  | 28 => ⟨S_, .i32⟩
  | 29 => ⟨S_, .i32⟩
  | 30 => ⟨S1x4x4x64, .f32⟩
  | 31 => ⟨S4x4x64, .f32⟩
  | 32 => ⟨S_, .f32⟩
  | 33 => ⟨S_, .f32⟩
  | 34 => ⟨S4x4x64, .f32⟩
  | 35 => ⟨S4x4x64x1, .f32⟩
  | 36 => ⟨S4x4x1x64, .f32⟩
  | 37 => ⟨S4x4x64x64, .f32⟩
  | 38 => ⟨S4x4x64x64, .f32⟩
  | 39 => ⟨S4x4x64x64, .f32⟩
  | 40 => ⟨S4x4x1x64, .f32⟩
  | 41 => ⟨S4x4x64x64, .f32⟩
  | 42 => ⟨S4x4x64x64, .f32⟩
  | 43 => ⟨S_, .f32⟩
  | 44 => ⟨S_, .f32⟩
  | 45 => ⟨S4x4x64x64, .i1⟩
  | 46 => ⟨S4x4x64x64, .f32⟩
  | 47 => ⟨S4x4x64x64, .f32⟩
  | 48 => ⟨S4x4x1, .f32⟩
  | 49 => ⟨S4x4x64, .f32⟩
  | 50 => ⟨S4x4x64, .f32⟩
  | 51 => ⟨S_, .f32⟩
  | 52 => ⟨S4x4x64, .f32⟩
  | 53 => ⟨S4x4x64, .f32⟩
  | 54 => ⟨S4x4x64x64, .f32⟩
  | 55 => ⟨S4x4x64x1, .f32⟩
  | 56 => ⟨S4x4x64x64, .f32⟩
  | 57 => ⟨S4x4x64x64, .f32⟩
  | 58 => ⟨S4x4x64x64, .f32⟩
  | 59 => ⟨S4x4x64x64, .f32⟩
  | 60 => ⟨S4x4x64, .f32⟩
  | 61 => ⟨S4x4x64, .f32⟩
  | 62 => ⟨S4x4x64x256, .f32⟩
  | 63 => ⟨S4x4x64x1, .f32⟩
  | 64 => ⟨S4x4x64x256, .f32⟩
  | 65 => ⟨S4x4x64x256, .f32⟩
  | 66 => ⟨S4x4x64x256, .f32⟩
  | 67 => ⟨S4x4x64x256, .f32⟩
  | 68 => ⟨S_, .f32⟩
  | 69 => ⟨S4x4x64, .f32⟩
  | 70 => ⟨S4x4x64, .f32⟩
  | 71 => ⟨S4x4x64, .f32⟩
  | 72 => ⟨S4x4x64, .f32⟩
  | 73 => ⟨S4x4x64, .f32⟩
  | 74 => ⟨S4x4x64, .f32⟩
  | 75 => ⟨S4x4x64, .f32⟩
  | 76 => ⟨S4x4x64, .f32⟩
  | 77 => ⟨S4x4x64x1, .f32⟩
  | 78 => ⟨S4x4x64x256, .f32⟩
  | 79 => ⟨S4x4x64x256, .f32⟩
  | 80 => ⟨S4x4x1, .f32⟩
  | 81 => ⟨S4x4, .f32⟩
  | 82 => ⟨S4x4x1, .f32⟩
  | 83 => ⟨S4x4x64, .f32⟩
  | 84 => ⟨S4x4x64, .f32⟩
  | 85 => ⟨S4x4x64, .f32⟩
  | 86 => ⟨S4x4, .f32⟩
  | 87 => ⟨S_, .f32⟩
  | 88 => ⟨S4x4, .f32⟩
  | 89 => ⟨S4x4, .f32⟩
  | 90 => ⟨S4x4x1, .f32⟩
  | 91 => ⟨S4x4x64, .f32⟩
  | 92 => ⟨S4x4x64, .f32⟩
  | 93 => ⟨S4x4x64, .f32⟩
  | 94 => ⟨S4x4, .f32⟩
  | 95 => ⟨S4x4, .f32⟩
  | 96 => ⟨S4x4, .f32⟩
  | 97 => ⟨S4x4x1x1, .f32⟩
  | 98 => ⟨S4x4x256x256, .f32⟩
  | 99 => ⟨S4x4x256x256, .f32⟩
  | 100 => ⟨S4x4x64x1, .f32⟩
  | 101 => ⟨S4x4x64x256, .f32⟩
  | 102 => ⟨S4x4x64x256, .f32⟩
  | 103 => ⟨S4x4x256x256, .f32⟩
  | 104 => ⟨S4x4x256x256, .f32⟩
  | 105 => ⟨S4x4x1, .f32⟩
  | 106 => ⟨S4x4x256, .f32⟩
  | 107 => ⟨S4x4x256, .f32⟩
  | 108 => ⟨S4x4x256, .f32⟩
  | 109 => ⟨S4x4x256, .f32⟩
  | 110 => ⟨S1x4x4x64x256, .f32⟩
  | 111 => ⟨S_, .i32⟩
  | 112 => ⟨S_, .i32⟩
  | 113 => ⟨S_, .i32⟩
  | 114 => ⟨S_, .i32⟩
  | 115 => ⟨S128x4x4x64x256, .f32⟩
  | 116 => ⟨S_, .i32⟩
  | 117 => ⟨S_, .i32⟩
  | 118 => ⟨S4x4x128x64x256, .f32⟩
  | 119 => ⟨S4x4x8192x256, .f32⟩
  | 120 => ⟨S4x8192x4x256, .f32⟩
  | 121 => ⟨S4x256, .f32⟩
  | 122 => ⟨S_, .f32⟩
  | 123 => ⟨S4x8192x4, .f32⟩
  | 124 => ⟨S4x8192x4x1, .f32⟩
  | 125 => ⟨S_, .f32⟩
  | 126 => ⟨S4x8192x4x1, .f32⟩
  | 127 => ⟨S4x8192x4x1, .f32⟩
  | _ => ⟨S4x8192x4096, .bf16⟩

abbrev hbmTy0_2 (i : Nat) : BufTy := match i % 128 with
  | 0 => ⟨S4x8192x4x256, .f32⟩
  | 1 => ⟨S4x8192x4x256, .f32⟩
  | 2 => ⟨S4x8192x4x256, .f32⟩
  | 3 => ⟨S_, .f32⟩
  | 4 => ⟨S4x8192x4, .f32⟩
  | 5 => ⟨S4x8192x4x1, .f32⟩
  | 6 => ⟨S_, .f32⟩
  | 7 => ⟨S4x8192x4x1, .f32⟩
  | 8 => ⟨S4x8192x4x1, .f32⟩
  | 9 => ⟨S4x8192x4x256, .f32⟩
  | 10 => ⟨S4x8192x4x256, .f32⟩
  | 11 => ⟨S_, .f32⟩
  | 12 => ⟨S4x8192x4x1, .f32⟩
  | 13 => ⟨S4x8192x4x1, .f32⟩
  | 14 => ⟨S4x8192x4x1, .f32⟩
  | 15 => ⟨S4x8192x4x256, .f32⟩
  | 16 => ⟨S4x8192x4x256, .f32⟩
  | 17 => ⟨S1x1x4x256, .f32⟩
  | 18 => ⟨S4x8192x4x256, .f32⟩
  | 19 => ⟨S4x8192x4x256, .f32⟩
  | 20 => ⟨S4x8192x1024, .f32⟩
  | 21 => ⟨S4x8192x1024, .f32⟩
  | 22 => ⟨S4x8192x1024, .f32⟩
  | 23 => ⟨S_, .f32⟩
  | 24 => ⟨S4x8192x1024, .f32⟩
  | 25 => ⟨S4x8192x1024, .f32⟩
  | 26 => ⟨S_, .f32⟩
  | 27 => ⟨S4x8192x1024, .f32⟩
  | 28 => ⟨S4x8192x1024, .f32⟩
  | 29 => ⟨S4x8192x1024, .f32⟩
  | 30 => ⟨S4x8192x1024, .bf16⟩
  | _ => ⟨S4x8192x4096, .bf16⟩

abbrev hbmTy (i : Nat) : BufTy := match i / 128 with
  | 0 => hbmTy0_0 i
  | 1 => hbmTy0_1 i
  | 2 => hbmTy0_2 i
  | _ => ⟨S4x8192x4096, .bf16⟩

abbrev bufTy : (tb : Table) → Fin (tcTables nBuf tb) → BufTy
  | .hbm, ⟨i, _⟩ => hbmTy i
  | _, _ => ⟨S4x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call2_v0 : Ref sig .tc := ⟨.hbm, 63, rfl⟩
abbrev main_call2_call0_cst : Ref sig .tc := ⟨.hbm, 64, rfl⟩
abbrev main_call2_call0_v0 : Ref sig .tc := ⟨.hbm, 65, rfl⟩
abbrev main_call2_call0_v1 : Ref sig .tc := ⟨.hbm, 66, rfl⟩
abbrev main_call2_call0_v2 : Ref sig .tc := ⟨.hbm, 67, rfl⟩
abbrev main_call2_call0_v3 : Ref sig .tc := ⟨.hbm, 68, rfl⟩
abbrev main_call2_call0_v4 : Ref sig .tc := ⟨.hbm, 69, rfl⟩
abbrev main_call2_call0_v5 : Ref sig .tc := ⟨.hbm, 70, rfl⟩
abbrev main_call2_call0_v6 : Ref sig .tc := ⟨.hbm, 71, rfl⟩
abbrev main_call2_call0_v7 : Ref sig .tc := ⟨.hbm, 72, rfl⟩
abbrev main_call2_call0_v8 : Ref sig .tc := ⟨.hbm, 73, rfl⟩
abbrev main_call2_call0_v9 : Ref sig .tc := ⟨.hbm, 74, rfl⟩
abbrev main_call2_call0_v10 : Ref sig .tc := ⟨.hbm, 75, rfl⟩
abbrev main_call2_call0_v11 : Ref sig .tc := ⟨.hbm, 76, rfl⟩
abbrev main_call2_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_0 : Ref sig .tc := ⟨.hbm, 99, rfl⟩
abbrev main_v68 : Ref sig .tc := ⟨.hbm, 100, rfl⟩
abbrev main_call3_v0 : Ref sig .tc := ⟨.hbm, 101, rfl⟩
abbrev main_call3_c : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_0 : Ref sig .tc := ⟨.hbm, 107, rfl⟩
abbrev main_call3_v5 : Ref sig .tc := ⟨.hbm, 108, rfl⟩
abbrev main_v69 : Ref sig .tc := ⟨.hbm, 109, rfl⟩
abbrev main_cst_1 : Ref sig .tc := ⟨.hbm, 110, rfl⟩
abbrev main_v70 : Ref sig .tc := ⟨.hbm, 111, rfl⟩
abbrev main_cst_2 : Ref sig .tc := ⟨.hbm, 112, rfl⟩
abbrev main_v71 : Ref sig .tc := ⟨.hbm, 113, rfl⟩
abbrev main_cst_3 : Ref sig .tc := ⟨.hbm, 114, rfl⟩
abbrev main_v72 : Ref sig .tc := ⟨.hbm, 115, rfl⟩
abbrev main_cst_4 : Ref sig .tc := ⟨.hbm, 116, rfl⟩
abbrev main_v73 : Ref sig .tc := ⟨.hbm, 117, rfl⟩
abbrev main_c_5 : Ref sig .tc := ⟨.hbm, 118, rfl⟩
abbrev main_v74_0 : Ref sig .tc := ⟨.hbm, 119, rfl⟩
abbrev main_v74_1 : Ref sig .tc := ⟨.hbm, 120, rfl⟩
abbrev main_v74_2 : Ref sig .tc := ⟨.hbm, 121, rfl⟩
abbrev main_v74_3 : Ref sig .tc := ⟨.hbm, 122, rfl⟩
abbrev main_v74_4 : Ref sig .tc := ⟨.hbm, 123, rfl⟩
abbrev main_v74_5 : Ref sig .tc := ⟨.hbm, 124, rfl⟩
abbrev main_v74_6 : Ref sig .tc := ⟨.hbm, 125, rfl⟩
abbrev main_v74_7 : Ref sig .tc := ⟨.hbm, 126, rfl⟩
abbrev main_v74_8 : Ref sig .tc := ⟨.hbm, 127, rfl⟩
abbrev main_v74_9 : Ref sig .tc := ⟨.hbm, 128, rfl⟩
abbrev main_v74_10 : Ref sig .tc := ⟨.hbm, 129, rfl⟩
abbrev main_while0c_c_23 : Ref sig .tc := ⟨.hbm, 130, rfl⟩
abbrev main_while0c_v109 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_c_1 : Ref sig .tc := ⟨.hbm, 134, rfl⟩
abbrev main_while0b_call4_c_2 : Ref sig .tc := ⟨.hbm, 135, rfl⟩
abbrev main_while0b_call4_v0 : Ref sig .tc := ⟨.hbm, 136, rfl⟩
abbrev main_while0b_v109 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_c_2 : Ref sig .tc := ⟨.hbm, 141, rfl⟩
abbrev main_while0b_call5_v0 : Ref sig .tc := ⟨.hbm, 142, rfl⟩
abbrev main_while0b_v110 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_c_2 : Ref sig .tc := ⟨.hbm, 147, rfl⟩
abbrev main_while0b_call6_v0 : Ref sig .tc := ⟨.hbm, 148, rfl⟩
abbrev main_while0b_v111 : Ref sig .tc := ⟨.hbm, 149, rfl⟩
abbrev main_while0b_call7_c : Ref sig .tc := ⟨.hbm, 150, rfl⟩
abbrev main_while0b_call7_c_0 : Ref sig .tc := ⟨.hbm, 151, rfl⟩
abbrev main_while0b_call7_c_1 : Ref sig .tc := ⟨.hbm, 152, rfl⟩
abbrev main_while0b_call7_v0 : Ref sig .tc := ⟨.hbm, 153, rfl⟩
abbrev main_while0b_v112 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_v0 : Ref sig .tc := ⟨.hbm, 158, rfl⟩
abbrev main_while0b_v113 : Ref sig .tc := ⟨.hbm, 159, rfl⟩
abbrev main_while0b_call9_call0_cst : Ref sig .tc := ⟨.hbm, 160, rfl⟩
abbrev main_while0b_call9_call0_v0 : Ref sig .tc := ⟨.hbm, 161, rfl⟩
abbrev main_while0b_v114 : Ref sig .tc := ⟨.hbm, 162, rfl⟩
abbrev main_while0b_v115 : Ref sig .tc := ⟨.hbm, 163, rfl⟩
abbrev main_while0b_v116 : Ref sig .tc := ⟨.hbm, 164, rfl⟩
abbrev main_while0b_v117 : Ref sig .tc := ⟨.hbm, 165, rfl⟩
abbrev main_while0b_v118 : Ref sig .tc := ⟨.hbm, 166, rfl⟩
abbrev main_while0b_v119 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_cst_23 : Ref sig .tc := ⟨.hbm, 171, rfl⟩
abbrev main_while0b_call10_v0 : Ref sig .tc := ⟨.hbm, 172, rfl⟩
abbrev main_while0b_call10_v1 : Ref sig .tc := ⟨.hbm, 173, rfl⟩
abbrev main_while0b_call10_v2 : Ref sig .tc := ⟨.hbm, 174, rfl⟩
abbrev main_while0b_v123 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_cst_24 : Ref sig .tc := ⟨.hbm, 179, rfl⟩
abbrev main_while0b_v127 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_v138 : Ref sig .tc := ⟨.hbm, 191, rfl⟩
abbrev main_while0b_v139 : Ref sig .tc := ⟨.hbm, 192, rfl⟩
abbrev main_while0b_v140 : Ref sig .tc := ⟨.hbm, 193, rfl⟩
abbrev main_while0b_v141 : Ref sig .tc := ⟨.hbm, 194, rfl⟩
abbrev main_while0b_v142 : Ref sig .tc := ⟨.hbm, 195, rfl⟩
abbrev main_while0b_cst_25 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_v154 : Ref sig .tc := ⟨.hbm, 208, rfl⟩
abbrev main_while0b_v155 : Ref sig .tc := ⟨.hbm, 209, rfl⟩
abbrev main_while0b_v156 : Ref sig .tc := ⟨.hbm, 210, rfl⟩
abbrev main_while0b_v157 : Ref sig .tc := ⟨.hbm, 211, rfl⟩
abbrev main_while0b_v158 : Ref sig .tc := ⟨.hbm, 212, rfl⟩
abbrev main_while0b_v159 : Ref sig .tc := ⟨.hbm, 213, rfl⟩
abbrev main_while0b_v160 : Ref sig .tc := ⟨.hbm, 214, rfl⟩
abbrev main_while0b_cst_26 : Ref sig .tc := ⟨.hbm, 215, rfl⟩
abbrev main_while0b_v161 : Ref sig .tc := ⟨.hbm, 216, rfl⟩
abbrev main_while0b_v162 : Ref sig .tc := ⟨.hbm, 217, rfl⟩
abbrev main_while0b_v163 : Ref sig .tc := ⟨.hbm, 218, rfl⟩
abbrev main_while0b_v164 : Ref sig .tc := ⟨.hbm, 219, rfl⟩
abbrev main_while0b_v165 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_v170 : Ref sig .tc := ⟨.hbm, 225, rfl⟩
abbrev main_while0b_v171 : Ref sig .tc := ⟨.hbm, 226, rfl⟩
abbrev main_while0b_v172 : Ref sig .tc := ⟨.hbm, 227, rfl⟩
abbrev main_while0b_v173 : Ref sig .tc := ⟨.hbm, 228, rfl⟩
abbrev main_while0b_v174 : Ref sig .tc := ⟨.hbm, 229, rfl⟩
abbrev main_while0b_v175 : Ref sig .tc := ⟨.hbm, 230, rfl⟩
abbrev main_while0b_v176 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_call11_v0 : Ref sig .tc := ⟨.hbm, 238, rfl⟩
abbrev main_while0b_call11_c : Ref sig .tc := ⟨.hbm, 239, rfl⟩
abbrev main_while0b_call11_c_0 : Ref sig .tc := ⟨.hbm, 240, rfl⟩
abbrev main_while0b_call11_c_1 : Ref sig .tc := ⟨.hbm, 241, rfl⟩
abbrev main_while0b_call11_c_2 : Ref sig .tc := ⟨.hbm, 242, rfl⟩
abbrev main_while0b_v183 : Ref sig .tc := ⟨.hbm, 243, rfl⟩
abbrev main_while0b_c_27 : Ref sig .tc := ⟨.hbm, 244, rfl⟩
abbrev main_while0b_v184 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_cst_6 : Ref sig .tc := ⟨.hbm, 250, rfl⟩
abbrev main_v79 : Ref sig .tc := ⟨.hbm, 251, rfl⟩
abbrev main_v80 : Ref sig .tc := ⟨.hbm, 252, rfl⟩
abbrev main_cst_7 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_cst_8 : Ref sig .tc := ⟨.hbm, 259, rfl⟩
abbrev main_v86 : Ref sig .tc := ⟨.hbm, 260, rfl⟩
abbrev main_v87 : Ref sig .tc := ⟨.hbm, 261, rfl⟩
abbrev main_cst_9 : Ref sig .tc := ⟨.hbm, 262, rfl⟩
abbrev main_v88 : Ref sig .tc := ⟨.hbm, 263, rfl⟩
abbrev main_v89 : Ref sig .tc := ⟨.hbm, 264, rfl⟩
abbrev main_v90 : Ref sig .tc := ⟨.hbm, 265, rfl⟩
abbrev main_v91 : Ref sig .tc := ⟨.hbm, 266, rfl⟩
abbrev main_cst_10 : Ref sig .tc := ⟨.hbm, 267, rfl⟩
abbrev main_v92 : Ref sig .tc := ⟨.hbm, 268, rfl⟩
abbrev main_v93 : Ref sig .tc := ⟨.hbm, 269, rfl⟩
abbrev main_v94 : Ref sig .tc := ⟨.hbm, 270, rfl⟩
abbrev main_v95 : Ref sig .tc := ⟨.hbm, 271, rfl⟩
abbrev main_v96 : Ref sig .tc := ⟨.hbm, 272, rfl⟩
abbrev main_v97 : Ref sig .tc := ⟨.hbm, 273, rfl⟩
abbrev main_v98 : Ref sig .tc := ⟨.hbm, 274, rfl⟩
abbrev main_v99 : Ref sig .tc := ⟨.hbm, 275, rfl⟩
abbrev main_v100 : Ref sig .tc := ⟨.hbm, 276, rfl⟩
abbrev main_v101 : Ref sig .tc := ⟨.hbm, 277, rfl⟩
abbrev main_v102 : Ref sig .tc := ⟨.hbm, 278, rfl⟩
abbrev main_cst_11 : Ref sig .tc := ⟨.hbm, 279, rfl⟩
abbrev main_v103 : Ref sig .tc := ⟨.hbm, 280, rfl⟩
abbrev main_v104 : Ref sig .tc := ⟨.hbm, 281, rfl⟩
abbrev main_cst_12 : Ref sig .tc := ⟨.hbm, 282, rfl⟩
abbrev main_v105 : Ref sig .tc := ⟨.hbm, 283, rfl⟩
abbrev main_v106 : Ref sig .tc := ⟨.hbm, 284, rfl⟩
abbrev main_v107 : Ref sig .tc := ⟨.hbm, 285, rfl⟩
abbrev main_v108 : Ref sig .tc := ⟨.hbm, 286, rfl⟩

abbrev nD : Nat := 1
abbrev τ : Topo := Topo.v7x

variable {F : FTy → Type} [FloatOps F]

abbrev main_while0_count : Scf.Loop 32 := ⟨0#32, 128#32, 1#32⟩
-- ==== Proof.Ffn.Run.lean ====
/- One point of the feed-forward kernel (`KernelIdeal`): the body run on buffers at given contents, case by case of its
   tests, with what each buffer holds afterwards. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step of a tile's sweep over the hidden columns, as the body tests it. -/
abbrev isFirst (i : grid0.Coords) : Prop :=
  (Scalar.cmpi .ne (Scalar.extui (Scalar.cmpi .eq (BitVec.ofNat 32 (i 1).val) 0#32)) 0#32) = 1#1

/-- The first point of the grid, as the body tests it. -/
abbrev isStart (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- Where the 48 rows normalised at a point begin. -/
abbrev rowOff (i : grid0.Coords) : Fin 2 → ℕ := ![min (48 * (i 1).val) 464, 0]

theorem rowOff_inb (i : grid0.Coords) : ∀ a, rowOff i a + S48x2048.size a ≤ S512x2048.size a := by
  refine Fin.forall_fin_two.mpr ⟨?_, (by omega : 0 + 2048 ≤ 2048)⟩
  show min (48 * (i 1).val) 464 + 48 ≤ 512
  omega

/-- The 48 rows normalised at a point, from the finished tile `A`. -/
def normed (i : grid0.Coords) (A : Vec F S512x2048 .f32) (g b : Vec F S1x2048 .f32) : Vec F S48x2048 .f32 :=
  k0_pay11 (VecWindow.window A (rowOff i) S48x2048.size (rowOff_inb i)) k0_pay5 g b

/-- `Y` with those rows put in. -/
def putRows (i : grid0.Coords) (Y : Vec F S512x2048 .f32) (P : Vec F S48x2048 .f32) : Vec F S512x2048 .f32 :=
  VecWindow.put Y (rowOff i) S48x2048.size P

/-- A load of everything from a whole memref held at the contents that read `X` reads `X`. -/
theorem whole_read {s : Shape} {e : EltTy} {r : Memref sig .tc .vmem s e} (h : r.IsWhole) (X : s.Idx → Elt F e)
    {off : Fin s.rank → ℕ} (inb : ∀ a, off a + s.size a ≤ s.size a) :
    View.readAt (Elt F) r.view (Rect.unit off s.size inb).toLoadRect (h.unread X) = X :=
  (View.readAt_full _ _ inb).trans (h.read_unread X)

set_option maxHeartbeats 1000000 in
/-- The first point: both accumulators are set, the odd one to zero. -/
theorem runA (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : isStart i) (hc1 : k0_cond2 i = 1#1) (hc3 : ¬k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i k0_pay10 x4 x5)) ∗ owns (c : Thread nD τ) arg9 fullShare (k0_pay2 x0) ∗ owns (c : Thread nD τ) arg10 fullShare (k0_pay4 (k0_pay2 x0) x1 x2 (k0_pay3 x0) x3) ∗ owns (c : Thread nD τ) arg11 fullShare k0_pay10) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runA.sl.r runA.sl.HS2_1; rw [whole_read, whole_read, View.writes_nil, harg8.read_unread, View.readAt_unit _ _ _ (k0_off1_eq i) (rowOff_inb i), View.read_writes_full]; rfl
    isplitl [HS0]
    · iexists _; isplitr; swap; · iexact HS0
      ipureintro
      unfold runA.sl.HS0_1; rw [View.read_writes_full, whole_read]
    isplitl [HS1]
    · iexists _; isplitr; swap; · iexact HS1
      ipureintro
      rw [View.read_writes_full]; unfold runA.sl.v37 runA.sl.v53 runA.sl.HS0_1 runA.sl.HS1_1; rw [View.readCov_full, View.readCov_full]; repeat rw [whole_read]
    iexists _; isplitr; swap; · iexact HS2
    ipureintro
    unfold runA.sl.HS2_1; rw [View.read_writes_full]

set_option maxHeartbeats 1000000 in
/-- A later step of an even tile. -/
theorem runB (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : ¬isStart i) (hc1 : k0_cond2 i = 1#1) (hc3 : ¬k0_cond4 i = 1#1) (hc4 : ¬k0_cond6 i = 1#1) (hc5 : ¬k0_cond7 i = 1#1) (hc6 : ¬isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare xb ∗ owns (c : Thread nD τ) arg10 fullShare (k0_pay4 xb x1 x2 ae x3) ∗ owns (c : Thread nD τ) arg11 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runB.sl.r; rw [whole_read, whole_read, View.writes_nil, harg8.read_unread, View.readAt_unit _ _ _ (k0_off1_eq i) (rowOff_inb i), harg11.read_unread]; rfl
    isplitl [HS0]
    · iexists _; isplitr; · ipureintro; exact harg9.read_unread _
      iexact HS0
    isplitl [HS1]
    · iexists _; isplitr; swap; · iexact HS1
      ipureintro
      rw [View.read_writes_full]; repeat rw [whole_read]
    iexists _; isplitr; · ipureintro; exact harg11.read_unread _
    iexact HS2

set_option maxHeartbeats 1000000 in
/-- The first step of an odd tile. -/
theorem runC (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : ¬isStart i) (hc1 : ¬k0_cond2 i = 1#1) (hc3 : k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ae x4 x5)) ∗ owns (c : Thread nD τ) arg9 fullShare (k0_pay6 x0) ∗ owns (c : Thread nD τ) arg10 fullShare ae ∗ owns (c : Thread nD τ) arg11 fullShare (k0_pay8 (k0_pay6 x0) x1 x2 (k0_pay7 x0) x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off2_eq i)]; unfold runC.sl.r; rw [whole_read, whole_read, View.writes_nil, harg8.read_unread, View.readAt_unit _ _ _ (k0_off2_eq i) (rowOff_inb i), harg10.read_unread]; rfl
    isplitl [HS0]
    · iexists _; isplitr; swap; · iexact HS0
      ipureintro
      unfold runC.sl.HS0_1; rw [View.read_writes_full, whole_read]
    isplitl [HS1]
    · iexists _; isplitr; · ipureintro; exact harg10.read_unread _
      iexact HS1
    iexists _; isplitr; swap; · iexact HS2
    ipureintro
    rw [View.read_writes_full]; unfold runC.sl.v37 runC.sl.v53 runC.sl.HS0_1 runC.sl.HS2_1; rw [View.readCov_full, View.readCov_full]; repeat rw [whole_read]

set_option maxHeartbeats 1000000 in
/-- A later step of an odd tile. -/
theorem runD (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : ¬isStart i) (hc1 : ¬k0_cond2 i = 1#1) (hc3 : k0_cond4 i = 1#1) (hc4 : ¬k0_cond6 i = 1#1) (hc5 : ¬k0_cond7 i = 1#1) (hc6 : ¬isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ae x4 x5)) ∗ owns (c : Thread nD τ) arg9 fullShare xb ∗ owns (c : Thread nD τ) arg10 fullShare ae ∗ owns (c : Thread nD τ) arg11 fullShare (k0_pay8 xb x1 x2 ao x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off2_eq i)]; unfold runD.sl.r; rw [whole_read, whole_read, View.writes_nil, harg8.read_unread, View.readAt_unit _ _ _ (k0_off2_eq i) (rowOff_inb i), harg10.read_unread]; rfl
    isplitl [HS0]
    · iexists _; isplitr; · ipureintro; exact harg9.read_unread _
      iexact HS0
    isplitl [HS1]
    · iexists _; isplitr; · ipureintro; exact harg10.read_unread _
      iexact HS1
    iexists _; isplitr; swap; · iexact HS2
    ipureintro
    rw [View.read_writes_full]; repeat rw [whole_read]

set_option maxHeartbeats 1000000 in
/-- The first step of an even tile other than the first. -/
theorem runE (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : ¬isStart i) (hc1 : k0_cond2 i = 1#1) (hc3 : ¬k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare (k0_pay2 x0) ∗ owns (c : Thread nD τ) arg10 fullShare (k0_pay4 (k0_pay2 x0) x1 x2 (k0_pay3 x0) x3) ∗ owns (c : Thread nD τ) arg11 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runE.sl.r; rw [whole_read, whole_read, View.writes_nil, harg8.read_unread, View.readAt_unit _ _ _ (k0_off1_eq i) (rowOff_inb i), harg11.read_unread]; rfl
    isplitl [HS0]
    · iexists _; isplitr; swap; · iexact HS0
      ipureintro
      unfold runE.sl.HS0_1; rw [View.read_writes_full, whole_read]
    isplitl [HS1]
    · iexists _; isplitr; swap; · iexact HS1
      ipureintro
      rw [View.read_writes_full]; unfold runE.sl.v37 runE.sl.v53 runE.sl.HS0_1 runE.sl.HS1_1; rw [View.readCov_full, View.readCov_full]; repeat rw [whole_read]
    iexists _; isplitr; · ipureintro; exact harg11.read_unread _
    iexact HS2

set_option maxHeartbeats 1000000 in
/-- The steps after the last tile, which only normalise. -/
theorem runF (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (hc0 : ¬isStart i) (hc1 : ¬k0_cond2 i = 1#1) (hc3 : ¬k0_cond4 i = 1#1) (hc4 : k0_cond6 i = 1#1) (hc5 : ¬k0_cond7 i = 1#1)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare xb ∗ owns (c : Thread nD τ) arg10 fullShare ae ∗ owns (c : Thread nD τ) arg11 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11) K := by
    simp only [cc0_ffn_ln_eq_skeleton]; unfold cc0_ffn_ln_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hfs0
    obtain rfl := harg10.eq_unread hfs1
    obtain rfl := harg11.eq_unread hfs2
    sl_exec (disch := first | sl_exact hc0 | sl_exact hc1 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off3_eq i)]; rw [whole_read, whole_read, View.writes_nil, harg8.read_unread, View.readAt_unit _ _ _ (k0_off3_eq i) (rowOff_inb i), harg11.read_unread]; rfl
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Ffn

end
-- ==== Proof.Ffn.Track.lean ====
/- The run of the feed-forward kernel over its whole grid (`KernelIdeal`), for any invariant of the scratch and any
   predicate on the result's staging buffer that the points keep. -/
module

public import proofs.«01_k».proof.Proof.Ffn.Run
public import Idealize.ShloMosaic.Lib.Pipeline.DatRel

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's tests at a point -/

theorem start_iff : ∀ t : Fin cfg0.N, isStart (grid0.coords t) ↔ t.val = 0 :=
  (by decide +kernel : ∀ t : Fin grid0.N, isStart (grid0.coords t) ↔ t.val = 0)
theorem first_iff : ∀ t : Fin cfg0.N, isFirst (grid0.coords t) ↔ t.val % 11 = 0 :=
  (by decide +kernel : ∀ t : Fin grid0.N, isFirst (grid0.coords t) ↔ t.val % 11 = 0)
theorem even_iff : ∀ t : Fin cfg0.N, k0_cond2 (grid0.coords t) = 1#1 ↔ (t.val / 11 % 2 = 0 ∧ t.val < 704) :=
  (by decide +kernel : ∀ t : Fin grid0.N, k0_cond2 (grid0.coords t) = 1#1 ↔ (t.val / 11 % 2 = 0 ∧ t.val < 704))
theorem odd_iff : ∀ t : Fin cfg0.N, k0_cond4 (grid0.coords t) = 1#1 ↔ t.val / 11 % 2 = 1 :=
  (by decide +kernel : ∀ t : Fin grid0.N, k0_cond4 (grid0.coords t) = 1#1 ↔ t.val / 11 % 2 = 1)
theorem drain_iff : ∀ t : Fin cfg0.N, k0_cond6 (grid0.coords t) = 1#1 ↔ 704 ≤ t.val :=
  (by decide +kernel : ∀ t : Fin grid0.N, k0_cond6 (grid0.coords t) = 1#1 ↔ 704 ≤ t.val)
theorem never : ∀ t : Fin cfg0.N, ¬k0_cond7 (grid0.coords t) = 1#1 :=
  (by decide +kernel : ∀ t : Fin grid0.N, ¬k0_cond7 (grid0.coords t) = 1#1)

/-! ## What a point makes of the scratch and of the result's buffer -/

/-- The rounded tile of activations after a point. -/
def xbNext (t : ℕ) (x : Vec F S512x2048 .f32) (xb : Vec F S512x2048 .bf16) : Vec F S512x2048 .bf16 :=
  if t % 11 = 0 ∧ t < 704 then k0_pay2 x else xb

/-- An accumulator after a step that adds to it. -/
def accNext (t : ℕ) (x : Vec F S512x2048 .f32) (w1 w3 : Vec F S2048x512 .bf16) (w2 : Vec F S512x2048 .bf16)
    (xb : Vec F S512x2048 .bf16) (acc : Vec F S512x2048 .f32) : Vec F S512x2048 .f32 :=
  k0_pay4 (xbNext t x xb) w1 w3 (if t % 11 = 0 then k0_pay3 x else acc) w2

/-- The accumulator of the even tiles after a point. -/
def evenNext (t : ℕ) (x : Vec F S512x2048 .f32) (w1 w3 : Vec F S2048x512 .bf16) (w2 : Vec F S512x2048 .bf16)
    (xb : Vec F S512x2048 .bf16) (ae : Vec F S512x2048 .f32) : Vec F S512x2048 .f32 :=
  if t / 11 % 2 = 0 ∧ t < 704 then accNext t x w1 w3 w2 xb ae else ae

/-- The accumulator of the odd tiles after a point. -/
def oddNext (t : ℕ) (x : Vec F S512x2048 .f32) (w1 w3 : Vec F S2048x512 .bf16) (w2 : Vec F S512x2048 .bf16)
    (xb : Vec F S512x2048 .bf16) (ao : Vec F S512x2048 .f32) : Vec F S512x2048 .f32 :=
  if t = 0 then k0_pay10 else if t / 11 % 2 = 1 then accNext t x w1 w3 w2 xb ao else ao

/-- The result's buffer after a point: 48 rows of the finished accumulator, normalised, put in. -/
def outNext (t : Fin cfg0.N) (g b : Vec F S1x2048 .f32) (Y ae ao : Vec F S512x2048 .f32) : Vec F S512x2048 .f32 :=
  putRows (grid0.coords t) Y (normed (grid0.coords t)
    (if t.val / 11 % 2 = 1 then ae else if t.val = 0 then k0_pay10 else ao) g b)

/-- The body at any point, its buffers held at given contents. -/
theorem run_point (c : Dev nD) (t : Fin cfg0.N) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (arg11 : Memref sig .tc .vmem S512x2048 .f32) (harg11 : arg11.IsWhole)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare xb ∗ owns (c : Thread nD τ) arg10 fullShare ae ∗ owns (c : Thread nD τ) arg11 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outNext t x4 x5 Y ae ao) ∗ owns (c : Thread nD τ) arg9 fullShare (xbNext t.val x0 xb) ∗ owns (c : Thread nD τ) arg10 fullShare (evenNext t.val x0 x1 x2 x3 xb ae) ∗ owns (c : Thread nD τ) arg11 fullShare (oddNext t.val x0 x1 x2 x3 xb ao)) -∗ K ⟨⟩))
      ⊢ wp frame (wpE (defs₀ (F := F)) Variants.none c none) E (cc0_ffn_ln (grid0.coords t) arg2 harg2 arg3 harg3 arg4 harg4 arg5 harg5 arg6 harg6 arg7 harg7 arg8 harg8 arg9 harg9 arg10 harg10 arg11 harg11) K := by
  have hN : t.val < 715 := Nat.lt_of_lt_of_eq t.isLt N_0
  have s := start_iff t
  have f := first_iff t
  have e := even_iff t
  have o := odd_iff t
  have d := drain_iff t
  have n := never t
  by_cases h0 : t.val = 0
  · have q1 : xbNext t.val x0 xb = k0_pay2 x0 := if_pos (by omega)
    have q2 : evenNext t.val x0 x1 x2 x3 xb ae = k0_pay4 (k0_pay2 x0) x1 x2 (k0_pay3 x0) x3 := by
      unfold evenNext accNext; rw [q1, if_pos (by omega), if_pos (by omega)]
    have q3 : oddNext t.val x0 x1 x2 x3 xb ao = k0_pay10 := if_pos h0
    have q4 : outNext t x4 x5 Y ae ao = putRows (grid0.coords t) Y (normed (grid0.coords t) k0_pay10 x4 x5) := by
      unfold outNext; rw [if_neg (by omega), if_pos h0]
    rw [q1, q2, q3, q4]
    exact runA c (grid0.coords t) arg2 harg2 arg3 harg3 arg4 harg4 arg5 harg5 arg6 harg6 arg7 harg7 arg8 harg8 arg9 harg9 arg10 harg10 arg11 harg11 (s.mpr h0) (e.mpr (by omega)) (fun h => by have := o.mp h; omega) (fun h => by have := d.mp h; omega) n (f.mpr (by omega)) x0 x1 x2 x3 x4 x5 Y xb ae ao E K
  have hs : ¬isStart (grid0.coords t) := fun h => h0 (s.mp h)
  by_cases hd : 704 ≤ t.val
  · have q1 : xbNext t.val x0 xb = xb := if_neg (by omega)
    have q2 : evenNext t.val x0 x1 x2 x3 xb ae = ae := if_neg (by omega)
    have q3 : oddNext t.val x0 x1 x2 x3 xb ao = ao := by unfold oddNext; rw [if_neg h0, if_neg (by omega)]
    have q4 : outNext t x4 x5 Y ae ao = putRows (grid0.coords t) Y (normed (grid0.coords t) ao x4 x5) := by
      unfold outNext; rw [if_neg (by omega), if_neg h0]
    rw [q1, q2, q3, q4]
    exact runF c (grid0.coords t) arg2 harg2 arg3 harg3 arg4 harg4 arg5 harg5 arg6 harg6 arg7 harg7 arg8 harg8 arg9 harg9 arg10 harg10 arg11 harg11 hs (fun h => by have := e.mp h; omega) (fun h => by have := o.mp h; omega) (d.mpr hd) n x0 x1 x2 x3 x4 x5 Y xb ae ao E K
  have hd' : ¬k0_cond6 (grid0.coords t) = 1#1 := fun h => hd (d.mp h)
  by_cases ho : t.val / 11 % 2 = 1
  · have he' : ¬k0_cond2 (grid0.coords t) = 1#1 := fun h => by have := e.mp h; omega
    have q2 : evenNext t.val x0 x1 x2 x3 xb ae = ae := if_neg (by omega)
    have q4 : outNext t x4 x5 Y ae ao = putRows (grid0.coords t) Y (normed (grid0.coords t) ae x4 x5) := by
      unfold outNext; rw [if_pos ho]
    by_cases hf : t.val % 11 = 0
    · have q1 : xbNext t.val x0 xb = k0_pay6 x0 := if_pos (by omega)
      have q3 : oddNext t.val x0 x1 x2 x3 xb ao = k0_pay8 (k0_pay6 x0) x1 x2 (k0_pay7 x0) x3 := by
        unfold oddNext accNext; rw [q1, if_neg h0, if_pos ho, if_pos hf]; rfl
      rw [q1, q2, q3, q4]
      exact runC c (grid0.coords t) arg2 harg2 arg3 harg3 arg4 harg4 arg5 harg5 arg6 harg6 arg7 harg7 arg8 harg8 arg9 harg9 arg10 harg10 arg11 harg11 hs he' (o.mpr ho) hd' n (f.mpr hf) x0 x1 x2 x3 x4 x5 Y xb ae ao E K
    · have q1 : xbNext t.val x0 xb = xb := if_neg (by omega)
      have q3 : oddNext t.val x0 x1 x2 x3 xb ao = k0_pay8 xb x1 x2 ao x3 := by
        unfold oddNext accNext; rw [q1, if_neg h0, if_pos ho, if_neg hf]; rfl
      rw [q1, q2, q3, q4]
      exact runD c (grid0.coords t) arg2 harg2 arg3 harg3 arg4 harg4 arg5 harg5 arg6 harg6 arg7 harg7 arg8 harg8 arg9 harg9 arg10 harg10 arg11 harg11 hs he' (o.mpr ho) hd' n (fun h => hf (f.mp h)) x0 x1 x2 x3 x4 x5 Y xb ae ao E K
  · have ho' : ¬k0_cond4 (grid0.coords t) = 1#1 := fun h => ho (o.mp h)
    have q3 : oddNext t.val x0 x1 x2 x3 xb ao = ao := by unfold oddNext; rw [if_neg h0, if_neg ho]
    have q4 : outNext t x4 x5 Y ae ao = putRows (grid0.coords t) Y (normed (grid0.coords t) ao x4 x5) := by
      unfold outNext; rw [if_neg ho, if_neg h0]
    by_cases hf : t.val % 11 = 0
    · have q1 : xbNext t.val x0 xb = k0_pay2 x0 := if_pos (by omega)
      have q2 : evenNext t.val x0 x1 x2 x3 xb ae = k0_pay4 (k0_pay2 x0) x1 x2 (k0_pay3 x0) x3 := by
        unfold evenNext accNext; rw [q1, if_pos (by omega), if_pos hf]
      rw [q1, q2, q3, q4]
      exact runE c (grid0.coords t) arg2 harg2 arg3 harg3 arg4 harg4 arg5 harg5 arg6 harg6 arg7 harg7 arg8 harg8 arg9 harg9 arg10 harg10 arg11 harg11 hs (e.mpr (by omega)) ho' hd' n (f.mpr hf) x0 x1 x2 x3 x4 x5 Y xb ae ao E K
    · have q1 : xbNext t.val x0 xb = xb := if_neg (by omega)
      have q2 : evenNext t.val x0 x1 x2 x3 xb ae = k0_pay4 xb x1 x2 ae x3 := by
        unfold evenNext accNext; rw [q1, if_pos (by omega), if_neg hf]
      rw [q1, q2, q3, q4]
      exact runB c (grid0.coords t) arg2 harg2 arg3 harg3 arg4 harg4 arg5 harg5 arg6 harg6 arg7 harg7 arg8 harg8 arg9 harg9 arg10 harg10 arg11 harg11 hs (e.mpr (by omega)) ho' hd' n (fun h => hf (f.mp h)) x0 x1 x2 x3 x4 x5 Y xb ae ao E K

/-! ## The run over the grid -/

variable (m : (ℓ : Loc nD τ sig) → Buf (Elt F) ℓ) (ρ : Dev nD → PrngReg)

/-- A property of the scratch at each point's start and one of the result's buffer at each point's end, which every point
    keeps: at a point the buffer holds anything if the point before wrote it back, and what the point before left otherwise. -/
structure Track where
  Inv : Dev nD → ℕ → Vec F S512x2048 .bf16 → Vec F S512x2048 .f32 → Vec F S512x2048 .f32 → Prop
  Out : Dev nD → Fin cfg0.N → Vec F S512x2048 .f32 → Prop
  start : ∀ c xb ae ao, Inv c 0 xb ae ao
  step : ∀ c (t : Fin cfg0.N) xb ae ao Y, Inv c t.val xb ae ao →
    (t.val ≠ 0 → (cfg0.win 6).flush ⟨t.val - 1, Nat.lt_of_le_of_lt (Nat.sub_le _ _) t.isLt⟩ = true
      ∨ Out c ⟨t.val - 1, Nat.lt_of_le_of_lt (Nat.sub_le _ _) t.isLt⟩ Y) →
    Inv c (t.val + 1) (xbNext t.val (iblk m c 0 t) xb)
        (evenNext t.val (iblk m c 0 t) (iblk m c 1 t) (iblk m c 2 t) (iblk m c 3 t) xb ae)
        (oddNext t.val (iblk m c 0 t) (iblk m c 1 t) (iblk m c 2 t) (iblk m c 3 t) xb ao)
      ∧ Out c t (outNext t (iblk m c 4 t) (iblk m c 5 t) Y ae ao)

/-- The windows held to a predicate: the result's. -/
def held : Fin 7 → Bool := fun w => w.val == 6

variable {m} (T : Track m)

/-- The predicate, window by window. -/
def Track.out (c : Dev nD) : (w : Fin cfg0.W) → Fin cfg0.N → ((cfg0.win w).block.Idx → Elt F (cfg0.win w).elt) → Prop
  | ⟨6, _⟩ => T.Out c
  | _ => fun _ _ => True

abbrev sc0 : Memref sig .tc .vmem S512x2048 .bf16 := Memref.whole cc0_scratch0
abbrev sc1 : Memref sig .tc .vmem S512x2048 .f32 := Memref.whole cc0_scratch1
abbrev sc2 : Memref sig .tc .vmem S512x2048 .f32 := Memref.whole cc0_scratch2

/-- Before point `n`: the scratch at contents with the invariant, the generator register at some state. -/
def Track.Phi (c : Dev nD) (n : ℕ) : sProp 𝕄 :=
  iprop((∃ xb ae ao, ⌜T.Inv c n xb ae ao⌝ ∗ owns (c : Thread nD τ) sc0 fullShare xb ∗ owns (c : Thread nD τ) sc1 fullShare ae
    ∗ owns (c : Thread nD τ) sc2 fullShare ao) ∗ (∃ r, prngReg c r))

/-- The proof data: each input's buffer at its block, the result's left unnamed. -/
def Track.dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := T.Phi c t.val
  q _ := fullShare
  owed _ := 0

/-- The same with the result's buffer held to the predicate. -/
abbrev Track.rdat (c : Dev nD) : Pipeline.RDat τ (Elt F) Unit ℕ (UR sig nD τ) ℕ cfg0 c := (T.dat c).toRRel held (T.out c)

theorem Track.A_eq (c : Dev nD) (w : Fin cfg0.W) : (T.dat c).A w = V m c (Pipeline.arrRef spec0 w) := by
  dsimp only [Track.dat]

theorem Track.before0 (c : Dev nD) (t : Fin cfg0.N) (d) : (T.dat c).before 0 t d = iblk m c 0 t :=
  before0_0_of m (T.dat c) (T.A_eq c 0) (fun t => by dsimp only [Track.dat]) t d
theorem Track.before1 (c : Dev nD) (t : Fin cfg0.N) (d) : (T.dat c).before 1 t d = iblk m c 1 t :=
  before0_1_of m (T.dat c) (T.A_eq c 1) (fun t => by dsimp only [Track.dat]) t d
theorem Track.before2 (c : Dev nD) (t : Fin cfg0.N) (d) : (T.dat c).before 2 t d = iblk m c 2 t :=
  before0_2_of m (T.dat c) (T.A_eq c 2) (fun t => by dsimp only [Track.dat]) t d
theorem Track.before3 (c : Dev nD) (t : Fin cfg0.N) (d) : (T.dat c).before 3 t d = iblk m c 3 t :=
  before0_3_of m (T.dat c) (T.A_eq c 3) (fun t => by dsimp only [Track.dat]) t d
theorem Track.before4 (c : Dev nD) (t : Fin cfg0.N) (d) : (T.dat c).before 4 t d = iblk m c 4 t :=
  before0_4_of m (T.dat c) (T.A_eq c 4) (fun t => by dsimp only [Track.dat]) t d
theorem Track.before5 (c : Dev nD) (t : Fin cfg0.N) (d) : (T.dat c).before 5 t d = iblk m c 5 t :=
  before0_5_of m (T.dat c) (T.A_eq c 5) (fun t => by dsimp only [Track.dat]) t d

abbrev ms (w : Fin cfg0.W) (t : Fin cfg0.N) := (cfg0.win w).stage (cfg0.slots t w)

/-- What the point's body is given, window by window. -/
def Track.pre (c : Dev nD) (t : Fin cfg0.N) : sProp 𝕄 :=
  iprop((T.dat c).Φ t.castSucc ∗ (T.dat c).owesAt () t.castSucc
    ∗ (∃ d, owns (c : Thread nD τ) (ms 0 t) fullShare ((T.dat c).before 0 t d))
    ∗ (∃ d, owns (c : Thread nD τ) (ms 1 t) fullShare ((T.dat c).before 1 t d))
    ∗ (∃ d, owns (c : Thread nD τ) (ms 2 t) fullShare ((T.dat c).before 2 t d))
    ∗ (∃ d, owns (c : Thread nD τ) (ms 3 t) fullShare ((T.dat c).before 3 t d))
    ∗ (∃ d, owns (c : Thread nD τ) (ms 4 t) fullShare ((T.dat c).before 4 t d))
    ∗ (∃ d, owns (c : Thread nD τ) (ms 5 t) fullShare ((T.dat c).before 5 t d))
    ∗ (∃ Y, ⌜(T.rdat c).Finds 6 t Y⌝ ∗ owns (c : Thread nD τ) (ms 6 t) fullShare Y))

/-- What it gives back. -/
def Track.post (c : Dev nD) (t : Fin cfg0.N) : sProp 𝕄 :=
  iprop((T.dat c).Φ t.succ ∗ (T.dat c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ owns (c : Thread nD τ) (ms 5 t) fullShare (iblk m c 5 t)
    ∗ (∃ X, ⌜T.Out c t X⌝ ∗ owns (c : Thread nD τ) (ms 6 t) fullShare X))

/-- What the body finds in the result's buffer. -/
theorem Track.finds (c : Dev nD) (t : Fin cfg0.N) (Y : Vec F S512x2048 .f32) (h : (T.rdat c).Finds 6 t Y) (ht : t.val ≠ 0) :
    (cfg0.win 6).flush ⟨t.val - 1, Nat.lt_of_le_of_lt (Nat.sub_le _ _) t.isLt⟩ = true
      ∨ T.Out c ⟨t.val - 1, Nat.lt_of_le_of_lt (Nat.sub_le _ _) t.isLt⟩ Y :=
  (((T.rdat c).finds_of_pos (w := 6) rfl ht Y).mp h).imp id fun h => (T.dat c).toRRel_leaves (w := 6) rfl h

set_option maxHeartbeats 2000000 in
theorem Track.body (c : Dev nD) (t : Fin cfg0.N) :
    T.pre c t ⊢ wp frame (wpE (defs₀ (F := F)) Variants.none c none) Set.univ (bodyAt0 t) (fun _ => T.post c t) := by
  unfold Track.pre Track.post bodyAt0
  simp only [T.before0, T.before1, T.before2, T.before3, T.before4, T.before5]
  rw [show (T.dat c).owesAt () t.succ = (T.dat c).owesAt () t.castSucc from rfl,
    show (T.dat c).Φ t.castSucc = T.Phi c t.val from rfl, show (T.dat c).Φ t.succ = T.Phi c (t.val + 1) from rfl]
  unfold Track.Phi
  iintro ⟨⟨⟨%xb, %ae, %ao, %hI, HS0, HS1, HS2⟩, Hg⟩, Ho, ⟨%d0, H0⟩, ⟨%d1, H1⟩, ⟨%d2, H2⟩, ⟨%d3, H3⟩, ⟨%d4, H4⟩, ⟨%d5, H5⟩, ⟨%Y, %hY, H6⟩⟩
  have hstep := T.step c t xb ae ao Y hI (T.finds c t Y hY)
  iapply (run_point c t _ _ _ _ _ _ _ _ _ _ _ _ _ _ _ _ _ _ _ _ (iblk m c 0 t) (iblk m c 1 t) (iblk m c 2 t) (iblk m c 3 t) (iblk m c 4 t) (iblk m c 5 t) Y xb ae ao Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · iexists _, _, _
      isplitr; · ipureintro; exact hstep.1
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _
  isplitr; · ipureintro; exact hstep.2
  iexact H6

theorem body_row (t : Fin cfg0.N) :
    defs₀ (F := F) .tc cfg0.body (cfg0.bodyArgs t (cfg0.slots t)) = bodyAt0 t := by
  unfold defs₀; rw [Defs.onTc_tc]

theorem Track.obligation (c : Dev nD) :
    Pipeline.BodyObligationRel (T.dat c) (defs₀ (F := F)) Variants.none () Set.univ held (T.out c) := fun t => by
  rw [bigSep_W0, bigSep_W0, body_row]
  exact triple_restated (T.body c t) rfl .rfl fun _ => .rfl

theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem Track.enter (c : Dev nD) : Pipeline.ΦA spec0 c ⊢ (T.rdat c).Φ 0 := by
  rw [show (T.rdat c).Φ 0 = T.Phi c 0 from rfl, scratch_eq]
  unfold Track.Phi
  iintro ⟨⟨⟨%xb, HS0⟩, ⟨%ae, HS1⟩, ⟨%ao, HS2⟩⟩, Hg⟩
  isplitl [HS0 HS1 HS2]
  · iexists xb, ae, ao
    isplitr; · ipureintro; exact T.start c xb ae ao
    isplitl [HS0]; · iexact HS0
    isplitl [HS1]; · iexact HS1
    iexact HS2
  iexact Hg

theorem Track.leave (c : Dev nD) : (T.rdat c).Φ (Fin.last cfg0.N) ⊢ Pipeline.ΦA spec0 c := by
  rw [show (T.rdat c).Φ (Fin.last cfg0.N) = T.Phi c cfg0.N from rfl, scratch_eq]
  unfold Track.Phi
  iintro ⟨⟨%xb, %ae, %ao, -, HS0, HS1, HS2⟩, Hg⟩
  isplitl [HS0 HS1 HS2]
  · isplitl [HS0]; · iexists _; iexact HS0
    isplitl [HS1]; · iexists _; iexact HS1
    iexists _; iexact HS2
  iexact Hg

/-- What holds when the program has ended: the staged arrays as the proof data has them, every other buffer as the region
    found it. -/
abbrev Track.End : PUnit × MemSt nD τ sig (Elt F) → Prop := Pipeline.RDat.FramePost (cfgs 0) T.rdat (V m)

set_option backward.isDefEq.respectTransparency.types false in
/-- The whole run. -/
theorem Track.run : θ_run defs (onTc (τ := τ) (main (F := F))) (s₀ m ρ) (fun r => T.End r ∧ r.2.sem = fun _ => 0) :=
  Pipeline.RDat.θ_run_frame_track (Q' := _) cfgs (0 : Fin 1) launch0 defs₀ Variants.none T.rdat m ρ main
    (hbody := fun c => (T.obligation c).toRRel) (hshare := fun c => (T.dat c).share_full fun _ => rfl)
    (howed := fun _ _ => rfl) (V := V m) (hmain := hmain m Variants.none) (hA := T.A_eq) (hin := T.enter) (hout := T.leave)
    (hQ' := fun _ h => h)

include T in
/-- The arguments end unchanged. -/
theorem Track.frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePost.arr_in h.1 c 0 rfl).trans ((T.A_eq c 0).trans (V_main_arg0 m c)),
     (h.1 c).2 main_arg1 (Pipeline.mem_restRefs_of main_arg1 (by decide) (by decide)) |>.trans (V_main_arg1 m c),
     (h.1 c).2 main_arg2 (Pipeline.mem_restRefs_of main_arg2 (by decide) (by decide)) |>.trans (V_main_arg2 m c),
     (h.1 c).2 main_arg3 (Pipeline.mem_restRefs_of main_arg3 (by decide) (by decide)) |>.trans (V_main_arg3 m c),
     (h.1 c).2 main_arg4 (Pipeline.mem_restRefs_of main_arg4 (by decide) (by decide)) |>.trans (V_main_arg4 m c),
     (h.1 c).2 main_arg5 (Pipeline.mem_restRefs_of main_arg5 (by decide) (by decide)) |>.trans (V_main_arg5 m c)⟩, h.2⟩)
    (T.run ρ)

/-- Nothing tracked. -/
def Track.any : Track m := ⟨fun _ _ _ _ _ => True, fun _ _ _ => True, fun _ _ _ _ => trivial, fun _ _ _ _ _ _ _ _ => ⟨trivial, trivial⟩⟩

end Cert.KernelIdeal.Ffn

end
-- ==== Proof.Ffn.Value.lean ====
/- The value of the feed-forward kernel (`KernelIdeal`) at the extended reals: what its accumulators hold after every grid
   point, and that the array it leaves is the reference's composed term. -/
module

public import proofs.«01_k».proof.Proof.Ffn.Track
public import proofs.«01_k».proof.Proof.Gen.ReferenceIdeal
public import Idealize.ShloMosaic.Lib.Pipeline.ValueKit
public import Idealize.ShloMosaic.Lib.Pipeline.ArrRel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

/-! ## A row's layer norm -/

/-- The mean of a row. -/
def mean (h : Fin 2048 → EReal) : EReal := Ideal.div (∑ x, h x) (Ideal.ofBits FTy.f32 1157627904#32)

/-- The layer norm of a row `h` at column `j`, with gain `g` and offset `b`. -/
def lnRow (h : Fin 2048 → EReal) (g b : EReal) (j : Fin 2048) : EReal :=
  (h j - mean h) * Ideal.rsqrt (mean (fun x => (h x - mean h) * (h x - mean h)) + Ideal.ofBits FTy.f32 925353388#32) * g + b

/-- The number one half, as the kernel writes it. -/
abbrev half : EReal := Ideal.ofBits FTy.f32 1056964608#32

theorem pay11_at (rows : Vec Ideal S48x2048 .f32) (g b : Vec Ideal S1x2048 .f32) (y0 : Fin 48) (y1 : Fin 2048) :
    k0_pay11 rows k0_pay5 g b (ix2 y0 y1) = lnRow (fun d => half * rows (ix2 y0 d)) (g (ix2 0 y1)) (b (ix2 0 y1)) y1 := by
  pointwise [k0_pay11, k0_pay5]
  rfl

/-! ## The reference -/

section Ref
open Cert.ReferenceIdeal

/-- The number `v` in every cell of an array as wide as the hidden layer. -/
abbrev ones : FVec Ideal Cert.ReferenceIdeal.S32768x5632 .f32 :=
  broadcastInDim Cert.ReferenceIdeal.S32768x5632 ![] Cert.ReferenceIdeal.Gen.bcast_S_S32768x5632
    (constant Cert.ReferenceIdeal.S_ .f32 0x3F800000#32)

/-- A product with a matrix from the model's width to the hidden one. -/
abbrev up (x : FVec Ideal Cert.ReferenceIdeal.S32768x2048 .f32) (w : FVec Ideal Cert.ReferenceIdeal.S2048x5632 .f32) :
    FVec Ideal Cert.ReferenceIdeal.S32768x5632 .f32 :=
  Host.dotGeneral Cert.ReferenceIdeal.dot_S32768x2048_S2048x5632_S32768x5632_1_0_0_1_n_n none x w

/-- `α x + ½ swiglu x`: what the reference normalises. -/
abbrev MIX (x : FVec Ideal Cert.ReferenceIdeal.S32768x2048 .f32) (w1 w3 : FVec Ideal Cert.ReferenceIdeal.S2048x5632 .f32)
    (w2 : FVec Ideal Cert.ReferenceIdeal.S5632x2048 .f32) : FVec Ideal Cert.ReferenceIdeal.S32768x2048 .f32 :=
  addf
    (mulf (broadcastInDim Cert.ReferenceIdeal.S32768x2048 ![] Cert.ReferenceIdeal.Gen.bcast_S_S32768x2048
      (constant Cert.ReferenceIdeal.S_ .f32 0x3F9837F0#32)) x)
    (mulf (broadcastInDim Cert.ReferenceIdeal.S32768x2048 ![] Cert.ReferenceIdeal.Gen.bcast_S_S32768x2048
      (constant Cert.ReferenceIdeal.S_ .f32 0x3F000000#32))
      (Host.dotGeneral Cert.ReferenceIdeal.dot_S32768x5632_S5632x2048_S32768x2048_1_0_0_1_n_n none
        (mulf (mulf (up x w1) (Host.divf ones (addf ones (Host.exp (Host.negf (up x w1)))))) (up x w3)) w2))

/-- The number `2048` in every cell of a column. -/
abbrev width : FVec Ideal Cert.ReferenceIdeal.S32768x1 .f32 :=
  broadcastInDim Cert.ReferenceIdeal.S32768x1 ![] Cert.ReferenceIdeal.Gen.bcast_S_S32768x1
    (constant Cert.ReferenceIdeal.S_ .f32 0x45000000#32)

/-- Every row's mean, as a column. -/
abbrev MEAN (u : FVec Ideal Cert.ReferenceIdeal.S32768x2048 .f32) : FVec Ideal Cert.ReferenceIdeal.S32768x1 .f32 :=
  Host.divf (broadcastInDim Cert.ReferenceIdeal.S32768x1 ![0] Cert.ReferenceIdeal.Gen.bcast_S32768_S32768x1_0
    (Host.reduceAdd u (constant Cert.ReferenceIdeal.S_ .f32 0x00000000#32)
      Cert.ReferenceIdeal.Gen.reducesTo_S32768x2048_S32768_d1 Cert.ReferenceIdeal.Gen.h_S_)) width

/-- A column repeated along the rows. -/
abbrev wide (v : FVec Ideal Cert.ReferenceIdeal.S32768x1 .f32) : FVec Ideal Cert.ReferenceIdeal.S32768x2048 .f32 :=
  broadcastInDim Cert.ReferenceIdeal.S32768x2048 ![0, 1] Cert.ReferenceIdeal.Gen.bcast_S32768x1_S32768x2048_0_1 v

/-- A row repeated down the columns. -/
abbrev tall (v : FVec Ideal Cert.ReferenceIdeal.S2048 .f32) : FVec Ideal Cert.ReferenceIdeal.S32768x2048 .f32 :=
  broadcastInDim Cert.ReferenceIdeal.S32768x2048 ![0, 1] Cert.ReferenceIdeal.Gen.bcast_S1x2048_S32768x2048_0_1
    (broadcastInDim Cert.ReferenceIdeal.S1x2048 ![1] Cert.ReferenceIdeal.Gen.bcast_S2048_S1x2048_1 v)

/-- The layer norm of every row. -/
abbrev LN (u : FVec Ideal Cert.ReferenceIdeal.S32768x2048 .f32) (g b : FVec Ideal Cert.ReferenceIdeal.S2048 .f32) :
    FVec Ideal Cert.ReferenceIdeal.S32768x2048 .f32 :=
  addf (mulf (mulf (subf u (wide (MEAN u)))
      (wide (Host.rsqrt (addf (MEAN (mulf (subf u (wide (MEAN u))) (subf u (wide (MEAN u)))))
        (broadcastInDim Cert.ReferenceIdeal.S32768x1 ![] Cert.ReferenceIdeal.Gen.bcast_S_S32768x1
          (constant Cert.ReferenceIdeal.S_ .f32 0x3727C5AC#32)))))) (tall g)) (tall b)

/-- The reference's result over its arguments. -/
abbrev REF (x : FVec Ideal Cert.ReferenceIdeal.S32768x2048 .f32) (w1 w3 : FVec Ideal Cert.ReferenceIdeal.S2048x5632 .f32)
    (w2 : FVec Ideal Cert.ReferenceIdeal.S5632x2048 .f32) (g b : FVec Ideal Cert.ReferenceIdeal.S2048 .f32) :
    FVec Ideal Cert.ReferenceIdeal.S32768x2048 .f32 := LN (MIX x w1 w3 w2) g b

theorem LN_at (u : FVec Ideal Cert.ReferenceIdeal.S32768x2048 .f32) (g b : FVec Ideal Cert.ReferenceIdeal.S2048 .f32)
    (r : Fin 32768) (j : Fin 2048) :
    LN u g b (ix2 r j) = lnRow (fun d => u (ix2 r d)) (g (ix1 j)) (b (ix1 j)) j := by
  pointwise [LN]
  rfl

/-- A hidden unit over the sums `h` and `k`. -/
def unit (h k : EReal) : EReal := h * Ideal.div 1 (1 + Ideal.exp (0 - h)) * k

theorem MIX_at (x : FVec Ideal Cert.ReferenceIdeal.S32768x2048 .f32) (w1 w3 : FVec Ideal Cert.ReferenceIdeal.S2048x5632 .f32)
    (w2 : FVec Ideal Cert.ReferenceIdeal.S5632x2048 .f32) (r : Fin 32768) (j : Fin 2048) :
    MIX x w1 w3 w2 (ix2 r j) = Ideal.ofBits FTy.f32 0x3F9837F0#32 * x (ix2 r j)
      + half * ∑ q : Fin 5632, unit (∑ d, x (ix2 r d) * w1 (ix2 d q)) (∑ d, x (ix2 r d) * w3 (ix2 d q)) * w2 (ix2 q j) := by
  pointwise [MIX]
  simp only [unit, zero_sub]

end Ref

theorem pay3_at (x : Vec Ideal S512x2048 .f32) (y0 : Fin 512) (y1 : Fin 2048) :
    k0_pay3 x (ix2 y0 y1) = Ideal.ofBits FTy.f32 0x401837F0#32 * x (ix2 y0 y1) := by
  pointwise [k0_pay3]

/-- What a hidden tile adds to an accumulator. -/
def tile (x : Vec Ideal S512x2048 .f32) (w1 w3 : Vec Ideal S2048x512 .bf16) (w2 : Vec Ideal S512x2048 .bf16)
    (y0 : Fin 512) (y1 : Fin 2048) : EReal :=
  ∑ q : Fin 512, unit (∑ d, x (ix2 y0 d) * w1 (ix2 d q)) (∑ d, x (ix2 y0 d) * w3 (ix2 d q)) * w2 (ix2 q y1)

theorem pay4_at (x : Vec Ideal S512x2048 .f32) (w1 w3 : Vec Ideal S2048x512 .bf16) (acc : Vec Ideal S512x2048 .f32)
    (w2 : Vec Ideal S512x2048 .bf16) (y0 : Fin 512) (y1 : Fin 2048) :
    k0_pay4 (k0_pay2 x) w1 w3 acc w2 (ix2 y0 y1) = acc (ix2 y0 y1) + tile x w1 w3 w2 y0 y1 := by
  pointwise [k0_pay4, k0_pay2]
  rfl

variable (m : (ℓ : Loc nD τ sig) → Buf (Elt Ideal) ℓ)

/-- The grid point of row tile `i` and hidden tile `k`. -/
def pt (i k : ℕ) : Fin cfg0.N := ⟨(11 * i + k) % 715, Nat.mod_lt _ (by decide)⟩

theorem pt_eq (t : Fin cfg0.N) (i k : ℕ) (h : t.val = 11 * i + k) : t = pt i k :=
  Fin.ext (by have := t.isLt; have e : cfg0.N = 715 := by decide
              show t.val = (11 * i + k) % 715; omega)

/-- The accumulator of row tile `i` after its hidden tiles `0..k`. -/
def part (c : Dev nD) (i : ℕ) : ℕ → Vec Ideal S512x2048 .f32
  | 0 => k0_pay4 (k0_pay2 (iblk m c 0 (pt i 0))) (iblk m c 1 (pt i 0)) (iblk m c 2 (pt i 0)) (k0_pay3 (iblk m c 0 (pt i 0)))
      (iblk m c 3 (pt i 0))
  | k + 1 => k0_pay4 (k0_pay2 (iblk m c 0 (pt i 0))) (iblk m c 1 (pt i (k + 1))) (iblk m c 2 (pt i (k + 1))) (part c i k)
      (iblk m c 3 (pt i (k + 1)))

/-- Which block each window reads or writes at a grid point. -/
theorem blocks : ∀ t : Fin cfg0.N, win0_0.index t = ![min (t.val / 11) 63, 0]
    ∧ win0_1.index t = ![0, if t.val / 11 = 64 then 10 else t.val % 11]
    ∧ win0_2.index t = ![0, if t.val / 11 = 64 then 10 else t.val % 11]
    ∧ win0_3.index t = ![if t.val / 11 = 64 then 10 else t.val % 11, 0]
    ∧ win0_4.index t = ![0, 0] ∧ win0_5.index t = ![0, 0] ∧ win0_6.index t = ![t.val / 11 - 1, 0] :=
  (by decide +kernel : ∀ t : Fin grid0.N, _)

/-- When the result's block is written back. -/
theorem flushes : ∀ t : Fin cfg0.N, (cfg0.win 6).flush t = true → t.val % 11 = 10 ∧ 21 ≤ t.val :=
  (by decide +kernel : ∀ t : Fin grid0.N, (cfg0.win 6).flush t = true → t.val % 11 = 10 ∧ 21 ≤ t.val)

theorem gain_at (c : Dev nD) (t : Fin cfg0.N) (j : Fin 2048) :
    iblk m c 4 t (ix2 0 j) = m ((c : Thread nD τ).loc main_arg4) (ix1 j) := by
  blk_point [iblk, V, blocks t]

theorem offset_at (c : Dev nD) (t : Fin cfg0.N) (j : Fin 2048) :
    iblk m c 5 t (ix2 0 j) = m ((c : Thread nD τ).loc main_arg5) (ix1 j) := by
  blk_point [iblk, V, blocks t]

/-- What the scratch holds before point `n`. -/
def Holds (c : Dev nD) (n : ℕ) (xb : Vec Ideal S512x2048 .bf16) (ae ao : Vec Ideal S512x2048 .f32) : Prop :=
  n ≠ 0 →
    ((n - 1) / 11 < 64 → xb = k0_pay2 (iblk m c 0 (pt ((n - 1) / 11) 0))
      ∧ (if (n - 1) / 11 % 2 = 0 then ae else ao) = part m c ((n - 1) / 11) ((n - 1) % 11))
    ∧ (11 ≤ n - 1 → (if (n - 1) / 11 % 2 = 1 then ae else ao) = part m c ((n - 1) / 11 - 1) 10)

/-- What a finished tile's row is normalised to. -/
def rowOf (c : Dev nD) (i : ℕ) (y0 : Fin 512) (y1 : Fin 2048) : EReal :=
  lnRow (fun d => half * part m c i 10 (ix2 y0 d)) (m ((c : Thread nD τ).loc main_arg4) (ix1 y1))
    (m ((c : Thread nD τ).loc main_arg5) (ix1 y1)) y1

/-- What the result's buffer holds after point `t`: the rows normalised so far. -/
def Rows (c : Dev nD) (t : Fin cfg0.N) (X : Vec Ideal S512x2048 .f32) : Prop :=
  11 ≤ t.val → ∀ (y0 : Fin 512) (y1 : Fin 2048), y0.val < 48 * (t.val % 11 + 1) → X (ix2 y0 y1) = rowOf m c (t.val / 11 - 1) y0 y1

/-- The accumulator that a point normalises. -/
theorem finished (c : Dev nD) (t : ℕ) (xb ae ao) (h : Holds m c t xb ae ao) (ht : 11 ≤ t) (hN : t < 715) :
    (if t / 11 % 2 = 1 then ae else ao) = part m c (t / 11 - 1) 10 := by
  obtain ⟨h1, h2⟩ := h (by omega)
  by_cases hk : t % 11 = 0
  · have := (h1 (by omega)).2
    have e1 : (t - 1) / 11 = t / 11 - 1 := by omega
    have e2 : (t - 1) % 11 = 10 := by omega
    rw [e1, e2] at this
    rw [← this]
    by_cases hp : t / 11 % 2 = 1
    · rw [if_pos hp, if_pos (by omega)]
    · rw [if_neg hp, if_neg (by omega)]
  · have e1 : (t - 1) / 11 = t / 11 := by omega
    have := h2 (by omega)
    rwa [e1] at this

/-- The scratch after a point. -/
theorem holds_next (c : Dev nD) (t : Fin cfg0.N) (xb ae ao) (h : Holds m c t.val xb ae ao) :
    Holds m c (t.val + 1) (xbNext t.val (iblk m c 0 t) xb)
      (evenNext t.val (iblk m c 0 t) (iblk m c 1 t) (iblk m c 2 t) (iblk m c 3 t) xb ae)
      (oddNext t.val (iblk m c 0 t) (iblk m c 1 t) (iblk m c 2 t) (iblk m c 3 t) xb ao) := by
  have hN : t.val < 715 := t.isLt
  intro _
  rw [Nat.add_sub_cancel]
  refine ⟨fun hi => ?_, fun hi => ?_⟩
  · have hx : xbNext t.val (iblk m c 0 t) xb = k0_pay2 (iblk m c 0 (pt (t.val / 11) 0)) := by
      unfold xbNext
      by_cases hk : t.val % 11 = 0
      · rw [if_pos ⟨hk, by omega⟩, ← pt_eq t (t.val / 11) 0 (by omega)]
      · rw [if_neg (by omega), ((h (by omega)).1 (by omega)).1]
        rw [show (t.val - 1) / 11 = t.val / 11 by omega]
    have ha : ∀ a, (t.val % 11 ≠ 0 → a = part m c (t.val / 11) (t.val % 11 - 1)) →
        accNext t.val (iblk m c 0 t) (iblk m c 1 t) (iblk m c 2 t) (iblk m c 3 t) xb a = part m c (t.val / 11) (t.val % 11) := by
      intro a hA
      unfold accNext
      rw [hx]
      by_cases hk : t.val % 11 = 0
      · rw [if_pos hk, hk, part, ← pt_eq t (t.val / 11) 0 (by omega)]
      · obtain ⟨k, hk'⟩ : ∃ k, t.val % 11 = k + 1 := ⟨t.val % 11 - 1, by omega⟩
        rw [if_neg hk, hA hk, hk', Nat.add_sub_cancel, part, ← pt_eq t (t.val / 11) (k + 1) (by omega)]
    refine ⟨hx, ?_⟩
    have hprev : t.val % 11 ≠ 0 → (if t.val / 11 % 2 = 0 then ae else ao) = part m c (t.val / 11) (t.val % 11 - 1) := by
      intro hk
      have := ((h (by omega)).1 (by omega)).2
      rwa [show (t.val - 1) / 11 = t.val / 11 by omega, show (t.val - 1) % 11 = t.val % 11 - 1 by omega] at this
    by_cases hp : t.val / 11 % 2 = 0
    · rw [if_pos hp, evenNext, if_pos ⟨hp, by omega⟩]
      exact ha _ fun hk => by have := hprev hk; rwa [if_pos hp] at this
    · rw [if_neg hp, oddNext, if_neg (by omega), if_pos (by omega)]
      exact ha _ fun hk => by have := hprev hk; rwa [if_neg hp] at this
  · have := finished m c t.val xb ae ao h hi hN
    rw [← this]
    by_cases hp : t.val / 11 % 2 = 1
    · rw [if_pos hp, if_pos hp, evenNext, if_neg (by omega)]
    · rw [if_neg hp, if_neg hp, oddNext, if_neg (by omega), if_neg hp]

theorem coord1 (t : Fin cfg0.N) : (grid0.coords t 1).val = t.val % 11 := by
  have h : (grid0.coords t 1).val = t.val / 1 % 11 := Pipeline.Grid.coords_val t 1 (by decide) rfl
  rwa [Nat.div_one] at h

/-- The rows of the result's buffer after a point. -/
theorem rows_next (c : Dev nD) (t : Fin cfg0.N) (xb ae ao Y) (h : Holds m c t.val xb ae ao)
    (hY : t.val ≠ 0 → (cfg0.win 6).flush ⟨t.val - 1, Nat.lt_of_le_of_lt (Nat.sub_le _ _) t.isLt⟩ = true
      ∨ Rows m c ⟨t.val - 1, Nat.lt_of_le_of_lt (Nat.sub_le _ _) t.isLt⟩ Y) :
    Rows m c t (outNext t (iblk m c 4 t) (iblk m c 5 t) Y ae ao) := by
  intro ht y0 y1 hy
  have hN : t.val < 715 := t.isLt
  have hA : (if t.val / 11 % 2 = 1 then ae else if t.val = 0 then k0_pay10 (F := Ideal) else ao) = part m c (t.val / 11 - 1) 10 := by
    rw [if_neg (show ¬ t.val = 0 by omega)]
    exact finished m c t.val xb ae ao h ht hN
  unfold outNext
  rw [hA]
  unfold putRows VecWindow.put
  have o0 : rowOff (grid0.coords t) 0 = min (48 * (t.val % 11)) 464 := by
    show min (48 * (grid0.coords t 1).val) 464 = _
    rw [coord1]
  have o1 : rowOff (grid0.coords t) 1 = 0 := rfl
  by_cases hin : rowOff (grid0.coords t) 0 ≤ y0.val
  · rw [dif_pos (by
      intro a
      match a with
      | 0 => exact ⟨hin, by show y0.val < rowOff (grid0.coords t) 0 + 48; have := y0.isLt; omega⟩
      | 1 => exact ⟨by rw [o1]; exact Nat.zero_le _, by show y1.val < rowOff (grid0.coords t) 1 + 2048; rw [o1]; have := y1.isLt; omega⟩)]
    have hlt : y0.val - rowOff (grid0.coords t) 0 < 48 := by have := y0.isLt; omega
    refine Eq.trans (congrArg (normed (grid0.coords t) (part m c (t.val / 11 - 1) 10) (iblk m c 4 t) (iblk m c 5 t))
      (a₂ := ix2 ⟨y0.val - rowOff (grid0.coords t) 0, hlt⟩ y1) ?_) ?_
    · funext a
      match a with
      | 0 => exact Fin.ext rfl
      | 1 => exact Fin.ext (by show y1.val - rowOff (grid0.coords t) 1 = y1.val; rw [o1, Nat.sub_zero])
    unfold normed
    rw [pay11_at, gain_at, offset_at]
    unfold rowOf
    refine congrArg (fun h => lnRow h _ _ y1) (funext fun d => congrArg (fun v => half * v) ?_)
    refine congrArg (part m c (t.val / 11 - 1) 10) (funext fun a => ?_)
    match a with
    | 0 => exact Fin.ext (by show rowOff (grid0.coords t) 0 + 1 * (y0.val - rowOff (grid0.coords t) 0) = y0.val; omega)
    | 1 => exact Fin.ext (by show rowOff (grid0.coords t) 1 + 1 * d.val = d.val; rw [o1]; omega)
  · rw [dif_neg (fun hall => hin (hall 0).1)]
    rcases hY (by omega) with hf | hr
    · have := (flushes _ hf).1
      exact absurd this (by show ¬ (t.val - 1) % 11 = 10; omega)
    · have e1 : (t.val - 1) / 11 = t.val / 11 := by omega
      have := hr (by show 11 ≤ t.val - 1; omega) y0 y1 (by show y0.val < 48 * ((t.val - 1) % 11 + 1); omega)
      rw [this]
      show rowOf m c ((t.val - 1) / 11 - 1) y0 y1 = _
      rw [e1]

/-! ## The accumulators as sums -/

/-- What hidden tile `k` adds to row tile `i`'s accumulator. -/
def share (c : Dev nD) (i k : ℕ) (y0 : Fin 512) (y1 : Fin 2048) : EReal :=
  tile (iblk m c 0 (pt i 0)) (iblk m c 1 (pt i k)) (iblk m c 2 (pt i k)) (iblk m c 3 (pt i k)) y0 y1

theorem part_at (c : Dev nD) (i k : ℕ) (y0 : Fin 512) (y1 : Fin 2048) :
    part m c i k (ix2 y0 y1) = k0_pay3 (iblk m c 0 (pt i 0)) (ix2 y0 y1)
      + ∑ s ∈ Finset.range (k + 1), share m c i s y0 y1 := by
  induction k with
  | zero => rw [part, pay4_at, Finset.sum_range_one]; rfl
  | succ k ih => rw [part, pay4_at, ih, Finset.sum_range_succ _ (k + 1), ← add_assoc]; rfl

theorem half_eq : half = (((1 : ℝ) / 2 : ℝ) : EReal) := by
  simp [half, Ideal.ofBits, Ideal.ieee, -EReal.coe_mul]; norm_num

theorem half_nonneg : (0 : EReal) ≤ half := by
  rw [half_eq]
  exact_mod_cast (by norm_num : (0 : ℝ) ≤ 1 / 2)

theorem half_ne_top : half ≠ ⊤ := by
  rw [half_eq]
  exact EReal.coe_ne_top _

/-- The kernel's factor is twice the reference's. -/
theorem half_two : half * Ideal.ofBits FTy.f32 0x401837F0#32 = Ideal.ofBits FTy.f32 0x3F9837F0#32 := by
  have h1 : Ideal.ofBits FTy.f32 0x401837F0#32 = (((9975792 : ℝ) / 4194304 : ℝ) : EReal) := by
    simp [Ideal.ofBits, Ideal.ieee, -EReal.coe_mul]; norm_num
  have h2 : Ideal.ofBits FTy.f32 0x3F9837F0#32 = (((9975792 : ℝ) / 8388608 : ℝ) : EReal) := by
    simp [Ideal.ofBits, Ideal.ieee, -EReal.coe_mul]; norm_num
  rw [half_eq, h1, h2, ← EReal.coe_mul]
  norm_num

theorem x_at (c : Dev nD) (i k : ℕ) (hi : i < 64) (hk : k < 11) (y0 : Fin 512) (d : Fin 2048) :
    iblk m c 0 (pt i k) (ix2 y0 d) = m ((c : Thread nD τ).loc main_arg0) (ix2 ⟨512 * i + y0.val, by have := y0.isLt; omega⟩ d) := by
  have e : (pt i k).val = 11 * i + k := Nat.mod_eq_of_lt (by omega)
  blk_point [iblk, V, blocks (pt i k)]

theorem w1_at (c : Dev nD) (i k : ℕ) (hi : i < 64) (hk : k < 11) (d : Fin 2048) (q : Fin 512) :
    iblk m c 1 (pt i k) (ix2 d q) = m ((c : Thread nD τ).loc main_arg1) (ix2 d ⟨k * 512 + q.val, by have := q.isLt; omega⟩) := by
  have e : (pt i k).val = 11 * i + k := Nat.mod_eq_of_lt (by omega)
  blk_point [iblk, V, blocks (pt i k)]
  rw [e]
  split_ifs <;> omega

theorem w3_at (c : Dev nD) (i k : ℕ) (hi : i < 64) (hk : k < 11) (d : Fin 2048) (q : Fin 512) :
    iblk m c 2 (pt i k) (ix2 d q) = m ((c : Thread nD τ).loc main_arg2) (ix2 d ⟨k * 512 + q.val, by have := q.isLt; omega⟩) := by
  have e : (pt i k).val = 11 * i + k := Nat.mod_eq_of_lt (by omega)
  blk_point [iblk, V, blocks (pt i k)]
  rw [e]
  split_ifs <;> omega

theorem w2_at (c : Dev nD) (i k : ℕ) (hi : i < 64) (hk : k < 11) (q : Fin 512) (j : Fin 2048) :
    iblk m c 3 (pt i k) (ix2 q j) = m ((c : Thread nD τ).loc main_arg3) (ix2 ⟨k * 512 + q.val, by have := q.isLt; omega⟩ j) := by
  have e : (pt i k).val = 11 * i + k := Nat.mod_eq_of_lt (by omega)
  blk_point [iblk, V, blocks (pt i k)]
  rw [e]
  split_ifs <;> omega

/-- A finished row tile is twice what the reference normalises. -/
theorem part_mix (c : Dev nD) (i : ℕ) (hi : i < 64) (y0 : Fin 512) (y1 : Fin 2048) :
    half * part m c i 10 (ix2 y0 y1)
      = MIX (m ((c : Thread nD τ).loc main_arg0)) (m ((c : Thread nD τ).loc main_arg1)) (m ((c : Thread nD τ).loc main_arg2))
          (m ((c : Thread nD τ).loc main_arg3)) (ix2 ⟨512 * i + y0.val, by have := y0.isLt; omega⟩ y1) := by
  rw [MIX_at, part_at, pay3_at, x_at m c i 0 hi (by omega), EReal.left_distrib_of_nonneg_of_ne_top half_nonneg half_ne_top,
    ← mul_assoc, half_two]
  refine congrArg₂ (· + ·) rfl (congrArg (half * ·) ?_)
  rw [Finset.sum_range]
  refine Fin.sum_mul_add_congr fun s q hl => ?_
  rw [w2_at m c i s.val hi s.isLt]
  simp only [x_at m c i 0 hi (by omega), w1_at m c i s.val hi s.isLt, w3_at m c i s.val hi s.isLt]

/-! ## The result array -/

/-- The property of the scratch and of the result's buffer that the grid's points keep. -/
def track : Track m where
  Inv := Holds m
  Out := Rows m
  start := fun _ _ _ _ h => absurd rfl h
  step := fun c t xb ae ao Y h hY => ⟨holds_next m c t xb ae ao h, rows_next m c t xb ae ao Y h hY⟩

/-- The reference's result over the kernel's arguments. -/
abbrev ref (c : Dev nD) : FVec Ideal Cert.ReferenceIdeal.S32768x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem row_ref (c : Dev nD) (i : ℕ) (hi : i < 64) (y0 : Fin 512) (y1 : Fin 2048) :
    rowOf m c i y0 y1 = ref m c (ix2 ⟨512 * i + y0.val, by have := y0.isLt; omega⟩ y1) := by
  refine Eq.trans ?_ (LN_at _ _ _ _ _).symm
  exact congrArg (fun h => lnRow h _ _ y1) (funext fun d => part_mix m c i hi y0 d)

/-- A block as it is written back, at a cell. -/
theorem block_ref (c : Dev nD) (t : Fin cfg0.N) (hf : (cfg0.win 6).flush t = true) (X : Vec Ideal S512x2048 .f32) (h : Rows m c t X)
    (y : S512x2048.Idx) : X y = ref m c (((cfg0.win 6).blk t).view.emb y) := by
  obtain ⟨h10, h21⟩ := flushes t hf
  have hN : t.val < 715 := t.isLt
  have e : ((cfg0.win 6).blk t).view.emb y = ix2 ⟨512 * (t.val / 11 - 1) + (y 0).val, by have : (y 0).val < 512 := (y 0).isLt; omega⟩ (y 1) := by
    blk_ext! [blocks t]
  rw [e]
  refine Eq.trans ?_ (row_ref m c (t.val / 11 - 1) (by omega) (y 0) (y 1))
  refine Eq.trans ?_ (h (by omega) (y 0) (y 1) (by have : (y 0).val < 512 := (y 0).isLt; omega))
  exact congrArg X (funext fun a => match a with | 0 => rfl | 1 => rfl)

/-- The result array after the run. -/
theorem result (r) (h : (track m).End r) (c : Dev nD) :
    r.2.mem ((c : Thread nD τ).loc main_v5) = ref m c := by
  obtain ⟨after, hl, harr⟩ := Pipeline.RDat.FramePost.exists_exact h c
  have hm := harr 6
  refine hm.trans ?_
  refine Dat.arrAt_eq_of_covers _ 6 _ (by decide +kernel) fun t hf y => ?_
  have hR : Rows m c t (after 6 t) := Dat.toRRel_leaves ((track m).dat c) (w := 6) rfl (hl 6 t hf)
  exact block_ref m c t hf _ hR y

/-- The whole run: the result is the reference's, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and ((track m).run ρ) ((track m).frame ρ)) fun r h c => ⟨result m r h.1.1 c, h.2.1 c⟩

end Cert.KernelIdeal.Ffn
end
-- ==== Proof.Ffn1.Run.lean ====
/- One point of the feed-forward kernel (`Kernel2Ideal`): the body run on buffers at given contents, case by case of its
   tests, with what each buffer holds afterwards. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step of a tile's sweep over the hidden columns, as the body tests it. -/
abbrev isFirst (i : grid0.Coords) : Prop :=
  (Scalar.cmpi .ne (Scalar.extui (Scalar.cmpi .eq (BitVec.ofNat 32 (i 1).val) 0#32)) 0#32) = 1#1

/-- The first point of the grid, as the body tests it. -/
abbrev isStart (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- Where the 48 rows normalised at a point begin. -/
abbrev rowOff (i : grid0.Coords) : Fin 2 → ℕ := ![min (48 * (i 1).val) 464, 0]

theorem rowOff_inb (i : grid0.Coords) : ∀ a, rowOff i a + S48x2048.size a ≤ S512x2048.size a := by
  refine Fin.forall_fin_two.mpr ⟨?_, (by omega : 0 + 2048 ≤ 2048)⟩
  show min (48 * (i 1).val) 464 + 48 ≤ 512
  omega

/-- The 48 rows normalised at a point, from the finished tile `A`. -/
def normed (i : grid0.Coords) (A : Vec F S512x2048 .f32) (g b : Vec F S1x2048 .f32) : Vec F S48x2048 .f32 :=
  k0_pay12 (VecWindow.window A (rowOff i) S48x2048.size (rowOff_inb i)) k0_pay6 g b

/-- `Y` with those rows put in. -/
def putRows (i : grid0.Coords) (Y : Vec F S512x2048 .f32) (P : Vec F S48x2048 .f32) : Vec F S512x2048 .f32 :=
  VecWindow.put Y (rowOff i) S48x2048.size P

/-- The same rows, rounded. -/
def normedB (i : grid0.Coords) (A : Vec F S512x2048 .f32) (g b : Vec F S1x2048 .f32) : Vec F S48x2048 .bf16 :=
  k0_pay13 (VecWindow.window A (rowOff i) S48x2048.size (rowOff_inb i)) k0_pay6 g b

/-- `Z` with the rounded rows put in. -/
def putRowsB (i : grid0.Coords) (Z : Vec F S512x2048 .bf16) (P : Vec F S48x2048 .bf16) : Vec F S512x2048 .bf16 :=
  VecWindow.put Z (rowOff i) S48x2048.size P

/-- A load of everything from a whole memref held at the contents that read `X` reads `X`. -/
theorem whole_read {s : Shape} {e : EltTy} {r : Memref sig .tc .vmem s e} (h : r.IsWhole) (X : s.Idx → Elt F e)
    {off : Fin s.rank → ℕ} (inb : ∀ a, off a + s.size a ≤ s.size a) :
    View.readAt (Elt F) r.view (Rect.unit off s.size inb).toLoadRect (h.unread X) = X :=
  (View.readAt_full _ _ inb).trans (h.read_unread X)

set_option maxHeartbeats 1000000 in
/-- The first point: both accumulators are set, the odd one to zero. -/
theorem runA (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : isStart i) (hc1 : k0_cond2 i = 1#1) (hc3 : ¬k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i k0_pay11 x4 x5)) ∗ owns (c : Thread nD τ) arg9 fullShare (putRowsB i Z (normedB i k0_pay11 x4 x5)) ∗ owns (c : Thread nD τ) arg10 fullShare (k0_pay3 x0) ∗ owns (c : Thread nD τ) arg11 fullShare (k0_pay5 (k0_pay3 x0) x1 x2 (k0_pay4 x0) x3) ∗ owns (c : Thread nD τ) arg12 fullShare k0_pay11) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runA.sl.r runA.sl.HS2_1; rw [whole_read, whole_read, View.writes_nil, harg8.read_unread, View.readAt_unit _ _ _ (k0_off1_eq i) (rowOff_inb i), View.read_writes_full]; rfl
    isplitl [H7]
    · iexists _; isplitr; swap; · iexact H7
      ipureintro
      rw [View.read_writes_cons_put _ _ _ _ _ (k0_off1_eq i)]; unfold runA.sl.r runA.sl.HS2_1; rw [whole_read, whole_read, View.writes_nil, harg9.read_unread, View.readAt_unit _ _ _ (k0_off1_eq i) (rowOff_inb i), View.read_writes_full]; rfl
    isplitl [HS0]
    · iexists _; isplitr; swap; · iexact HS0
      ipureintro
      unfold runA.sl.HS0_1; rw [View.read_writes_full, whole_read]
    isplitl [HS1]
    · iexists _; isplitr; swap; · iexact HS1
      ipureintro
      rw [View.read_writes_full]; unfold runA.sl.v37 runA.sl.v53 runA.sl.HS0_1 runA.sl.HS1_1; rw [View.readCov_full, View.readCov_full]; repeat rw [whole_read]
    iexists _; isplitr; swap; · iexact HS2
    ipureintro
    unfold runA.sl.HS2_1; rw [View.read_writes_full]

set_option maxHeartbeats 1000000 in
/-- A later step of an even tile. -/
theorem runB (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : ¬isStart i) (hc1 : k0_cond2 i = 1#1) (hc3 : ¬k0_cond4 i = 1#1) (hc4 : ¬k0_cond6 i = 1#1) (hc5 : ¬k0_cond7 i = 1#1) (hc6 : ¬isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare (putRowsB i Z (normedB i ao x4 x5)) ∗ owns (c : Thread nD τ) arg10 fullShare xb ∗ owns (c : Thread nD τ) arg11 fullShare (k0_pay5 xb x1 x2 ae x3) ∗ owns (c : Thread nD τ) arg12 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runB.sl.r; rw [whole_read, whole_read, View.writes_nil, harg8.read_unread, View.readAt_unit _ _ _ (k0_off1_eq i) (rowOff_inb i), harg12.read_unread]; rfl
    isplitl [H7]
    · iexists _; isplitr; swap; · iexact H7
      ipureintro
      rw [View.read_writes_cons_put _ _ _ _ _ (k0_off1_eq i)]; unfold runB.sl.r; rw [whole_read, whole_read, View.writes_nil, harg9.read_unread, View.readAt_unit _ _ _ (k0_off1_eq i) (rowOff_inb i), harg12.read_unread]; rfl
    isplitl [HS0]
    · iexists _; isplitr; · ipureintro; exact harg10.read_unread _
      iexact HS0
    isplitl [HS1]
    · iexists _; isplitr; swap; · iexact HS1
      ipureintro
      rw [View.read_writes_full]; repeat rw [whole_read]
    iexists _; isplitr; · ipureintro; exact harg12.read_unread _
    iexact HS2

set_option maxHeartbeats 1000000 in
/-- The first step of an odd tile. -/
theorem runC (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : ¬isStart i) (hc1 : ¬k0_cond2 i = 1#1) (hc3 : k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ae x4 x5)) ∗ owns (c : Thread nD τ) arg9 fullShare (putRowsB i Z (normedB i ae x4 x5)) ∗ owns (c : Thread nD τ) arg10 fullShare (k0_pay7 x0) ∗ owns (c : Thread nD τ) arg11 fullShare ae ∗ owns (c : Thread nD τ) arg12 fullShare (k0_pay9 (k0_pay7 x0) x1 x2 (k0_pay8 x0) x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off2_eq i)]; unfold runC.sl.r; rw [whole_read, whole_read, View.writes_nil, harg8.read_unread, View.readAt_unit _ _ _ (k0_off2_eq i) (rowOff_inb i), harg11.read_unread]; rfl
    isplitl [H7]
    · iexists _; isplitr; swap; · iexact H7
      ipureintro
      rw [View.read_writes_cons_put _ _ _ _ _ (k0_off2_eq i)]; unfold runC.sl.r; rw [whole_read, whole_read, View.writes_nil, harg9.read_unread, View.readAt_unit _ _ _ (k0_off2_eq i) (rowOff_inb i), harg11.read_unread]; rfl
    isplitl [HS0]
    · iexists _; isplitr; swap; · iexact HS0
      ipureintro
      unfold runC.sl.HS0_1; rw [View.read_writes_full, whole_read]
    isplitl [HS1]
    · iexists _; isplitr; · ipureintro; exact harg11.read_unread _
      iexact HS1
    iexists _; isplitr; swap; · iexact HS2
    ipureintro
    rw [View.read_writes_full]; unfold runC.sl.v37 runC.sl.v53 runC.sl.HS0_1 runC.sl.HS2_1; rw [View.readCov_full, View.readCov_full]; repeat rw [whole_read]

set_option maxHeartbeats 1000000 in
/-- A later step of an odd tile. -/
theorem runD (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : ¬isStart i) (hc1 : ¬k0_cond2 i = 1#1) (hc3 : k0_cond4 i = 1#1) (hc4 : ¬k0_cond6 i = 1#1) (hc5 : ¬k0_cond7 i = 1#1) (hc6 : ¬isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ae x4 x5)) ∗ owns (c : Thread nD τ) arg9 fullShare (putRowsB i Z (normedB i ae x4 x5)) ∗ owns (c : Thread nD τ) arg10 fullShare xb ∗ owns (c : Thread nD τ) arg11 fullShare ae ∗ owns (c : Thread nD τ) arg12 fullShare (k0_pay9 xb x1 x2 ao x3)) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off2_eq i)]; unfold runD.sl.r; rw [whole_read, whole_read, View.writes_nil, harg8.read_unread, View.readAt_unit _ _ _ (k0_off2_eq i) (rowOff_inb i), harg11.read_unread]; rfl
    isplitl [H7]
    · iexists _; isplitr; swap; · iexact H7
      ipureintro
      rw [View.read_writes_cons_put _ _ _ _ _ (k0_off2_eq i)]; unfold runD.sl.r; rw [whole_read, whole_read, View.writes_nil, harg9.read_unread, View.readAt_unit _ _ _ (k0_off2_eq i) (rowOff_inb i), harg11.read_unread]; rfl
    isplitl [HS0]
    · iexists _; isplitr; · ipureintro; exact harg10.read_unread _
      iexact HS0
    isplitl [HS1]
    · iexists _; isplitr; · ipureintro; exact harg11.read_unread _
      iexact HS1
    iexists _; isplitr; swap; · iexact HS2
    ipureintro
    rw [View.read_writes_full]; repeat rw [whole_read]

set_option maxHeartbeats 1000000 in
/-- The first step of an even tile other than the first. -/
theorem runE (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : ¬isStart i) (hc1 : k0_cond2 i = 1#1) (hc3 : ¬k0_cond4 i = 1#1) (hc4 : ¬k0_cond6 i = 1#1) (hc5 : ¬k0_cond7 i = 1#1) (hc6 : isFirst i)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare (putRowsB i Z (normedB i ao x4 x5)) ∗ owns (c : Thread nD τ) arg10 fullShare (k0_pay3 x0) ∗ owns (c : Thread nD τ) arg11 fullShare (k0_pay5 (k0_pay3 x0) x1 x2 (k0_pay4 x0) x3) ∗ owns (c : Thread nD τ) arg12 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off1_eq i)]; unfold runE.sl.r; rw [whole_read, whole_read, View.writes_nil, harg8.read_unread, View.readAt_unit _ _ _ (k0_off1_eq i) (rowOff_inb i), harg12.read_unread]; rfl
    isplitl [H7]
    · iexists _; isplitr; swap; · iexact H7
      ipureintro
      rw [View.read_writes_cons_put _ _ _ _ _ (k0_off1_eq i)]; unfold runE.sl.r; rw [whole_read, whole_read, View.writes_nil, harg9.read_unread, View.readAt_unit _ _ _ (k0_off1_eq i) (rowOff_inb i), harg12.read_unread]; rfl
    isplitl [HS0]
    · iexists _; isplitr; swap; · iexact HS0
      ipureintro
      unfold runE.sl.HS0_1; rw [View.read_writes_full, whole_read]
    isplitl [HS1]
    · iexists _; isplitr; swap; · iexact HS1
      ipureintro
      rw [View.read_writes_full]; unfold runE.sl.v37 runE.sl.v53 runE.sl.HS0_1 runE.sl.HS1_1; rw [View.readCov_full, View.readCov_full]; repeat rw [whole_read]
    iexists _; isplitr; · ipureintro; exact harg12.read_unread _
    iexact HS2

set_option maxHeartbeats 1000000 in
/-- The steps after the last tile, which only normalise. -/
theorem runF (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (hc0 : ¬isStart i) (hc1 : ¬k0_cond2 i = 1#1) (hc3 : ¬k0_cond4 i = 1#1) (hc4 : k0_cond6 i = 1#1) (hc5 : ¬k0_cond7 i = 1#1)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows i Y (normed i ao x4 x5)) ∗ owns (c : Thread nD τ) arg9 fullShare (putRowsB i Z (normedB i ao x4 x5)) ∗ owns (c : Thread nD τ) arg10 fullShare xb ∗ owns (c : Thread nD τ) arg11 fullShare ae ∗ owns (c : Thread nD τ) arg12 fullShare ao) -∗ K ⟨⟩))
      ⊢ wp frame (wpE (defs₀ (F := F)) Variants.none c none) E (cc0_ffn_ln i arg2 harg2 arg3 harg3 arg4 harg4 arg5 harg5 arg6 harg6 arg7 harg7 arg8 harg8 arg9 harg9 arg10 harg10 arg11 harg11 arg12 harg12) K := by
    simp only [cc0_ffn_ln_eq_skeleton]; unfold cc0_ffn_ln_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hfs0
    obtain rfl := harg11.eq_unread hfs1
    obtain rfl := harg12.eq_unread hfs2
    sl_exec (disch := first | sl_exact hc0 | sl_exact hc1 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_cons_put _ _ _ _ _ (k0_off3_eq i)]; rw [whole_read, whole_read, View.writes_nil, harg8.read_unread, View.readAt_unit _ _ _ (k0_off3_eq i) (rowOff_inb i), harg12.read_unread]; rfl
    isplitl [H7]
    · iexists _; isplitr; swap; · iexact H7
      ipureintro
      rw [View.read_writes_cons_put _ _ _ _ _ (k0_off3_eq i)]; rw [whole_read, whole_read, View.writes_nil, harg9.read_unread, View.readAt_unit _ _ _ (k0_off3_eq i) (rowOff_inb i), harg12.read_unread]; rfl
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.Kernel2Ideal.Ffn

end
-- ==== Proof.Ffn1.Track.lean ====
/- The run of the feed-forward kernel over its whole grid (`Kernel2Ideal`), for any invariant of the scratch and any
   predicate on the result's staging buffer that the points keep. -/
module

public import proofs.«01_k».proof.Proof.Ffn1.Run
public import Idealize.ShloMosaic.Lib.Pipeline.DatRel

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's tests at a point -/

theorem start_iff : ∀ t : Fin cfg0.N, isStart (grid0.coords t) ↔ t.val = 0 :=
  (by decide +kernel : ∀ t : Fin grid0.N, isStart (grid0.coords t) ↔ t.val = 0)
theorem first_iff : ∀ t : Fin cfg0.N, isFirst (grid0.coords t) ↔ t.val % 11 = 0 :=
  (by decide +kernel : ∀ t : Fin grid0.N, isFirst (grid0.coords t) ↔ t.val % 11 = 0)
theorem even_iff : ∀ t : Fin cfg0.N, k0_cond2 (grid0.coords t) = 1#1 ↔ (t.val / 11 % 2 = 0 ∧ t.val < 704) :=
  (by decide +kernel : ∀ t : Fin grid0.N, k0_cond2 (grid0.coords t) = 1#1 ↔ (t.val / 11 % 2 = 0 ∧ t.val < 704))
theorem odd_iff : ∀ t : Fin cfg0.N, k0_cond4 (grid0.coords t) = 1#1 ↔ t.val / 11 % 2 = 1 :=
  (by decide +kernel : ∀ t : Fin grid0.N, k0_cond4 (grid0.coords t) = 1#1 ↔ t.val / 11 % 2 = 1)
theorem drain_iff : ∀ t : Fin cfg0.N, k0_cond6 (grid0.coords t) = 1#1 ↔ 704 ≤ t.val :=
  (by decide +kernel : ∀ t : Fin grid0.N, k0_cond6 (grid0.coords t) = 1#1 ↔ 704 ≤ t.val)
theorem never : ∀ t : Fin cfg0.N, ¬k0_cond7 (grid0.coords t) = 1#1 :=
  (by decide +kernel : ∀ t : Fin grid0.N, ¬k0_cond7 (grid0.coords t) = 1#1)

/-! ## What a point makes of the scratch and of the result's buffer -/

/-- The rounded tile of activations after a point. -/
def xbNext (t : ℕ) (x : Vec F S512x2048 .f32) (xb : Vec F S512x2048 .bf16) : Vec F S512x2048 .bf16 :=
  if t % 11 = 0 ∧ t < 704 then k0_pay3 x else xb

/-- An accumulator after a step that adds to it. -/
def accNext (t : ℕ) (x : Vec F S512x2048 .f32) (w1 w3 : Vec F S2048x512 .bf16) (w2 : Vec F S512x2048 .bf16)
    (xb : Vec F S512x2048 .bf16) (acc : Vec F S512x2048 .f32) : Vec F S512x2048 .f32 :=
  k0_pay5 (xbNext t x xb) w1 w3 (if t % 11 = 0 then k0_pay4 x else acc) w2

/-- The accumulator of the even tiles after a point. -/
def evenNext (t : ℕ) (x : Vec F S512x2048 .f32) (w1 w3 : Vec F S2048x512 .bf16) (w2 : Vec F S512x2048 .bf16)
    (xb : Vec F S512x2048 .bf16) (ae : Vec F S512x2048 .f32) : Vec F S512x2048 .f32 :=
  if t / 11 % 2 = 0 ∧ t < 704 then accNext t x w1 w3 w2 xb ae else ae

/-- The accumulator of the odd tiles after a point. -/
def oddNext (t : ℕ) (x : Vec F S512x2048 .f32) (w1 w3 : Vec F S2048x512 .bf16) (w2 : Vec F S512x2048 .bf16)
    (xb : Vec F S512x2048 .bf16) (ao : Vec F S512x2048 .f32) : Vec F S512x2048 .f32 :=
  if t = 0 then k0_pay11 else if t / 11 % 2 = 1 then accNext t x w1 w3 w2 xb ao else ao

/-- The result's buffer after a point: 48 rows of the finished accumulator, normalised, put in. -/
def outNext (t : Fin cfg0.N) (g b : Vec F S1x2048 .f32) (Y ae ao : Vec F S512x2048 .f32) : Vec F S512x2048 .f32 :=
  putRows (grid0.coords t) Y (normed (grid0.coords t)
    (if t.val / 11 % 2 = 1 then ae else if t.val = 0 then k0_pay11 else ao) g b)

/-- The second result's buffer after a point: the same rows, rounded, put in. -/
def outNextB (t : Fin cfg0.N) (g b : Vec F S1x2048 .f32) (Z : Vec F S512x2048 .bf16) (ae ao : Vec F S512x2048 .f32) :
    Vec F S512x2048 .bf16 :=
  putRowsB (grid0.coords t) Z (normedB (grid0.coords t)
    (if t.val / 11 % 2 = 1 then ae else if t.val = 0 then k0_pay11 else ao) g b)

/-- The body at any point, its buffers held at given contents. -/
theorem run_point (c : Dev nD) (t : Fin cfg0.N) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x2048 .f32) (harg12 : arg12.IsWhole)
    (x0 : Vec F S512x2048 .f32) (x1 : Vec F S2048x512 .bf16) (x2 : Vec F S2048x512 .bf16) (x3 : Vec F S512x2048 .bf16) (x4 : Vec F S1x2048 .f32) (x5 : Vec F S1x2048 .f32) (Y : Vec F S512x2048 .f32) (Z : Vec F S512x2048 .bf16) (xb : Vec F S512x2048 .bf16) (ae ao : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare Y ∗ owns (c : Thread nD τ) arg9 fullShare Z ∗ owns (c : Thread nD τ) arg10 fullShare xb ∗ owns (c : Thread nD τ) arg11 fullShare ae ∗ owns (c : Thread nD τ) arg12 fullShare ao
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outNext t x4 x5 Y ae ao) ∗ owns (c : Thread nD τ) arg9 fullShare (outNextB t x4 x5 Z ae ao) ∗ owns (c : Thread nD τ) arg10 fullShare (xbNext t.val x0 xb) ∗ owns (c : Thread nD τ) arg11 fullShare (evenNext t.val x0 x1 x2 x3 xb ae) ∗ owns (c : Thread nD τ) arg12 fullShare (oddNext t.val x0 x1 x2 x3 xb ao)) -∗ K ⟨⟩))
      ⊢ wp frame (wpE (defs₀ (F := F)) Variants.none c none) E (cc0_ffn_ln (grid0.coords t) arg2 harg2 arg3 harg3 arg4 harg4 arg5 harg5 arg6 harg6 arg7 harg7 arg8 harg8 arg9 harg9 arg10 harg10 arg11 harg11 arg12 harg12) K := by
  have hN : t.val < 715 := Nat.lt_of_lt_of_eq t.isLt N_0
  have s := start_iff t
  have f := first_iff t
  have e := even_iff t
  have o := odd_iff t
  have d := drain_iff t
  have n := never t
  by_cases h0 : t.val = 0
  · have q1 : xbNext t.val x0 xb = k0_pay3 x0 := if_pos (by omega)
    have q2 : evenNext t.val x0 x1 x2 x3 xb ae = k0_pay5 (k0_pay3 x0) x1 x2 (k0_pay4 x0) x3 := by
      unfold evenNext accNext; rw [q1, if_pos (by omega), if_pos (by omega)]
    have q3 : oddNext t.val x0 x1 x2 x3 xb ao = k0_pay11 := if_pos h0
    have q4 : outNext t x4 x5 Y ae ao = putRows (grid0.coords t) Y (normed (grid0.coords t) k0_pay11 x4 x5) := by
      unfold outNext; rw [if_neg (by omega), if_pos h0]
    have q5 : outNextB t x4 x5 Z ae ao = putRowsB (grid0.coords t) Z (normedB (grid0.coords t) k0_pay11 x4 x5) := by
      unfold outNextB; rw [if_neg (by omega), if_pos h0]
    rw [q1, q2, q3, q4, q5]
    exact runA c (grid0.coords t) arg2 harg2 arg3 harg3 arg4 harg4 arg5 harg5 arg6 harg6 arg7 harg7 arg8 harg8 arg9 harg9 arg10 harg10 arg11 harg11 arg12 harg12 (s.mpr h0) (e.mpr (by omega)) (fun h => by have := o.mp h; omega) (fun h => by have := d.mp h; omega) n (f.mpr (by omega)) x0 x1 x2 x3 x4 x5 Y Z xb ae ao E K
  have hs : ¬isStart (grid0.coords t) := fun h => h0 (s.mp h)
  by_cases hd : 704 ≤ t.val
  · have q1 : xbNext t.val x0 xb = xb := if_neg (by omega)
    have q2 : evenNext t.val x0 x1 x2 x3 xb ae = ae := if_neg (by omega)
    have q3 : oddNext t.val x0 x1 x2 x3 xb ao = ao := by unfold oddNext; rw [if_neg h0, if_neg (by omega)]
    have q4 : outNext t x4 x5 Y ae ao = putRows (grid0.coords t) Y (normed (grid0.coords t) ao x4 x5) := by
      unfold outNext; rw [if_neg (by omega), if_neg h0]
    have q5 : outNextB t x4 x5 Z ae ao = putRowsB (grid0.coords t) Z (normedB (grid0.coords t) ao x4 x5) := by
      unfold outNextB; rw [if_neg (by omega), if_neg h0]
    rw [q1, q2, q3, q4, q5]
    exact runF c (grid0.coords t) arg2 harg2 arg3 harg3 arg4 harg4 arg5 harg5 arg6 harg6 arg7 harg7 arg8 harg8 arg9 harg9 arg10 harg10 arg11 harg11 arg12 harg12 hs (fun h => by have := e.mp h; omega) (fun h => by have := o.mp h; omega) (d.mpr hd) n x0 x1 x2 x3 x4 x5 Y Z xb ae ao E K
  have hd' : ¬k0_cond6 (grid0.coords t) = 1#1 := fun h => hd (d.mp h)
  by_cases ho : t.val / 11 % 2 = 1
  · have he' : ¬k0_cond2 (grid0.coords t) = 1#1 := fun h => by have := e.mp h; omega
    have q2 : evenNext t.val x0 x1 x2 x3 xb ae = ae := if_neg (by omega)
    have q4 : outNext t x4 x5 Y ae ao = putRows (grid0.coords t) Y (normed (grid0.coords t) ae x4 x5) := by
      unfold outNext; rw [if_pos ho]
    have q5 : outNextB t x4 x5 Z ae ao = putRowsB (grid0.coords t) Z (normedB (grid0.coords t) ae x4 x5) := by
      unfold outNextB; rw [if_pos ho]
    by_cases hf : t.val % 11 = 0
    · have q1 : xbNext t.val x0 xb = k0_pay7 x0 := if_pos (by omega)
      have q3 : oddNext t.val x0 x1 x2 x3 xb ao = k0_pay9 (k0_pay7 x0) x1 x2 (k0_pay8 x0) x3 := by
        unfold oddNext accNext; rw [q1, if_neg h0, if_pos ho, if_pos hf]; rfl
      rw [q1, q2, q3, q4, q5]
      exact runC c (grid0.coords t) arg2 harg2 arg3 harg3 arg4 harg4 arg5 harg5 arg6 harg6 arg7 harg7 arg8 harg8 arg9 harg9 arg10 harg10 arg11 harg11 arg12 harg12 hs he' (o.mpr ho) hd' n (f.mpr hf) x0 x1 x2 x3 x4 x5 Y Z xb ae ao E K
    · have q1 : xbNext t.val x0 xb = xb := if_neg (by omega)
      have q3 : oddNext t.val x0 x1 x2 x3 xb ao = k0_pay9 xb x1 x2 ao x3 := by
        unfold oddNext accNext; rw [q1, if_neg h0, if_pos ho, if_neg hf]; rfl
      rw [q1, q2, q3, q4, q5]
      exact runD c (grid0.coords t) arg2 harg2 arg3 harg3 arg4 harg4 arg5 harg5 arg6 harg6 arg7 harg7 arg8 harg8 arg9 harg9 arg10 harg10 arg11 harg11 arg12 harg12 hs he' (o.mpr ho) hd' n (fun h => hf (f.mp h)) x0 x1 x2 x3 x4 x5 Y Z xb ae ao E K
  · have ho' : ¬k0_cond4 (grid0.coords t) = 1#1 := fun h => ho (o.mp h)
    have q3 : oddNext t.val x0 x1 x2 x3 xb ao = ao := by unfold oddNext; rw [if_neg h0, if_neg ho]
    have q4 : outNext t x4 x5 Y ae ao = putRows (grid0.coords t) Y (normed (grid0.coords t) ao x4 x5) := by
      unfold outNext; rw [if_neg ho, if_neg h0]
    have q5 : outNextB t x4 x5 Z ae ao = putRowsB (grid0.coords t) Z (normedB (grid0.coords t) ao x4 x5) := by
      unfold outNextB; rw [if_neg ho, if_neg h0]
    by_cases hf : t.val % 11 = 0
    · have q1 : xbNext t.val x0 xb = k0_pay3 x0 := if_pos (by omega)
      have q2 : evenNext t.val x0 x1 x2 x3 xb ae = k0_pay5 (k0_pay3 x0) x1 x2 (k0_pay4 x0) x3 := by
        unfold evenNext accNext; rw [q1, if_pos (by omega), if_pos hf]
      rw [q1, q2, q3, q4, q5]
      exact runE c (grid0.coords t) arg2 harg2 arg3 harg3 arg4 harg4 arg5 harg5 arg6 harg6 arg7 harg7 arg8 harg8 arg9 harg9 arg10 harg10 arg11 harg11 arg12 harg12 hs (e.mpr (by omega)) ho' hd' n (f.mpr hf) x0 x1 x2 x3 x4 x5 Y Z xb ae ao E K
    · have q1 : xbNext t.val x0 xb = xb := if_neg (by omega)
      have q2 : evenNext t.val x0 x1 x2 x3 xb ae = k0_pay5 xb x1 x2 ae x3 := by
        unfold evenNext accNext; rw [q1, if_pos (by omega), if_neg hf]
      rw [q1, q2, q3, q4, q5]
      exact runB c (grid0.coords t) arg2 harg2 arg3 harg3 arg4 harg4 arg5 harg5 arg6 harg6 arg7 harg7 arg8 harg8 arg9 harg9 arg10 harg10 arg11 harg11 arg12 harg12 hs (e.mpr (by omega)) ho' hd' n (fun h => hf (f.mp h)) x0 x1 x2 x3 x4 x5 Y Z xb ae ao E K

/-! ## The run over the grid -/

variable (m : (ℓ : Loc nD τ sig) → Buf (Elt F) ℓ) (ρ : Dev nD → PrngReg)

/-- A property of the scratch at each point's start and one of each result's buffer at each point's end, which every point
    keeps: at a point the buffer holds anything if the point before wrote it back, and what the point before left otherwise. -/
structure Track where
  Inv : Dev nD → ℕ → Vec F S512x2048 .bf16 → Vec F S512x2048 .f32 → Vec F S512x2048 .f32 → Prop
  Out : Dev nD → Fin cfg0.N → Vec F S512x2048 .f32 → Prop
  OutB : Dev nD → Fin cfg0.N → Vec F S512x2048 .bf16 → Prop
  start : ∀ c xb ae ao, Inv c 0 xb ae ao
  step : ∀ c (t : Fin cfg0.N) xb ae ao Y Z, Inv c t.val xb ae ao →
    (t.val ≠ 0 → (cfg0.win 6).flush ⟨t.val - 1, Nat.lt_of_le_of_lt (Nat.sub_le _ _) t.isLt⟩ = true
      ∨ Out c ⟨t.val - 1, Nat.lt_of_le_of_lt (Nat.sub_le _ _) t.isLt⟩ Y) →
    (t.val ≠ 0 → (cfg0.win 7).flush ⟨t.val - 1, Nat.lt_of_le_of_lt (Nat.sub_le _ _) t.isLt⟩ = true
      ∨ OutB c ⟨t.val - 1, Nat.lt_of_le_of_lt (Nat.sub_le _ _) t.isLt⟩ Z) →
    Inv c (t.val + 1) (xbNext t.val (iblk m c 0 t) xb)
        (evenNext t.val (iblk m c 0 t) (iblk m c 1 t) (iblk m c 2 t) (iblk m c 3 t) xb ae)
        (oddNext t.val (iblk m c 0 t) (iblk m c 1 t) (iblk m c 2 t) (iblk m c 3 t) xb ao)
      ∧ Out c t (outNext t (iblk m c 4 t) (iblk m c 5 t) Y ae ao)
      ∧ OutB c t (outNextB t (iblk m c 4 t) (iblk m c 5 t) Z ae ao)

/-- The windows held to a predicate: the two results'. -/
def held : Fin 8 → Bool := fun w => decide (6 ≤ w.val)

variable {m} (T : Track m)

/-- The predicate, window by window. -/
def Track.out (c : Dev nD) : (w : Fin cfg0.W) → Fin cfg0.N → ((cfg0.win w).block.Idx → Elt F (cfg0.win w).elt) → Prop
  | ⟨6, _⟩ => T.Out c
  | ⟨7, _⟩ => T.OutB c
  | _ => fun _ _ => True

abbrev sc0 : Memref sig .tc .vmem S512x2048 .bf16 := Memref.whole cc0_scratch0
abbrev sc1 : Memref sig .tc .vmem S512x2048 .f32 := Memref.whole cc0_scratch1
abbrev sc2 : Memref sig .tc .vmem S512x2048 .f32 := Memref.whole cc0_scratch2

/-- Before point `n`: the scratch at contents with the invariant, the generator register at some state. -/
def Track.Phi (c : Dev nD) (n : ℕ) : sProp 𝕄 :=
  iprop((∃ xb ae ao, ⌜T.Inv c n xb ae ao⌝ ∗ owns (c : Thread nD τ) sc0 fullShare xb ∗ owns (c : Thread nD τ) sc1 fullShare ae
    ∗ owns (c : Thread nD τ) sc2 fullShare ao) ∗ (∃ r, prngReg c r))

/-- The proof data: each input's buffer at its block, the result's left unnamed. -/
def Track.dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := T.Phi c t.val
  q _ := fullShare
  owed _ := 0

/-- The same with the result's buffer held to the predicate. -/
abbrev Track.rdat (c : Dev nD) : Pipeline.RDat τ (Elt F) Unit ℕ (UR sig nD τ) ℕ cfg0 c := (T.dat c).toRRel held (T.out c)

theorem Track.A_eq (c : Dev nD) (w : Fin cfg0.W) : (T.dat c).A w = V m c (Pipeline.arrRef spec0 w) := by
  dsimp only [Track.dat]

theorem Track.before0 (c : Dev nD) (t : Fin cfg0.N) (d) : (T.dat c).before 0 t d = iblk m c 0 t :=
  before0_0_of m (T.dat c) (T.A_eq c 0) (fun t => by dsimp only [Track.dat]) t d
theorem Track.before1 (c : Dev nD) (t : Fin cfg0.N) (d) : (T.dat c).before 1 t d = iblk m c 1 t :=
  before0_1_of m (T.dat c) (T.A_eq c 1) (fun t => by dsimp only [Track.dat]) t d
theorem Track.before2 (c : Dev nD) (t : Fin cfg0.N) (d) : (T.dat c).before 2 t d = iblk m c 2 t :=
  before0_2_of m (T.dat c) (T.A_eq c 2) (fun t => by dsimp only [Track.dat]) t d
theorem Track.before3 (c : Dev nD) (t : Fin cfg0.N) (d) : (T.dat c).before 3 t d = iblk m c 3 t :=
  before0_3_of m (T.dat c) (T.A_eq c 3) (fun t => by dsimp only [Track.dat]) t d
theorem Track.before4 (c : Dev nD) (t : Fin cfg0.N) (d) : (T.dat c).before 4 t d = iblk m c 4 t :=
  before0_4_of m (T.dat c) (T.A_eq c 4) (fun t => by dsimp only [Track.dat]) t d
theorem Track.before5 (c : Dev nD) (t : Fin cfg0.N) (d) : (T.dat c).before 5 t d = iblk m c 5 t :=
  before0_5_of m (T.dat c) (T.A_eq c 5) (fun t => by dsimp only [Track.dat]) t d

abbrev ms (w : Fin cfg0.W) (t : Fin cfg0.N) := (cfg0.win w).stage (cfg0.slots t w)

/-- What the point's body is given, window by window. -/
def Track.pre (c : Dev nD) (t : Fin cfg0.N) : sProp 𝕄 :=
  iprop((T.dat c).Φ t.castSucc ∗ (T.dat c).owesAt () t.castSucc
    ∗ (∃ d, owns (c : Thread nD τ) (ms 0 t) fullShare ((T.dat c).before 0 t d))
    ∗ (∃ d, owns (c : Thread nD τ) (ms 1 t) fullShare ((T.dat c).before 1 t d))
    ∗ (∃ d, owns (c : Thread nD τ) (ms 2 t) fullShare ((T.dat c).before 2 t d))
    ∗ (∃ d, owns (c : Thread nD τ) (ms 3 t) fullShare ((T.dat c).before 3 t d))
    ∗ (∃ d, owns (c : Thread nD τ) (ms 4 t) fullShare ((T.dat c).before 4 t d))
    ∗ (∃ d, owns (c : Thread nD τ) (ms 5 t) fullShare ((T.dat c).before 5 t d))
    ∗ (∃ Y, ⌜(T.rdat c).Finds 6 t Y⌝ ∗ owns (c : Thread nD τ) (ms 6 t) fullShare Y)
    ∗ (∃ Z, ⌜(T.rdat c).Finds 7 t Z⌝ ∗ owns (c : Thread nD τ) (ms 7 t) fullShare Z))

/-- What it gives back. -/
def Track.post (c : Dev nD) (t : Fin cfg0.N) : sProp 𝕄 :=
  iprop((T.dat c).Φ t.succ ∗ (T.dat c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ owns (c : Thread nD τ) (ms 5 t) fullShare (iblk m c 5 t)
    ∗ (∃ X, ⌜T.Out c t X⌝ ∗ owns (c : Thread nD τ) (ms 6 t) fullShare X)
    ∗ (∃ X, ⌜T.OutB c t X⌝ ∗ owns (c : Thread nD τ) (ms 7 t) fullShare X))

/-- What the body finds in the result's buffer. -/
theorem Track.finds (c : Dev nD) (t : Fin cfg0.N) (Y : Vec F S512x2048 .f32) (h : (T.rdat c).Finds 6 t Y) (ht : t.val ≠ 0) :
    (cfg0.win 6).flush ⟨t.val - 1, Nat.lt_of_le_of_lt (Nat.sub_le _ _) t.isLt⟩ = true
      ∨ T.Out c ⟨t.val - 1, Nat.lt_of_le_of_lt (Nat.sub_le _ _) t.isLt⟩ Y :=
  (((T.rdat c).finds_of_pos (w := 6) rfl ht Y).mp h).imp id fun h => (T.dat c).toRRel_leaves (w := 6) rfl h

/-- What the body finds in the second result's buffer. -/
theorem Track.findsB (c : Dev nD) (t : Fin cfg0.N) (Z : Vec F S512x2048 .bf16) (h : (T.rdat c).Finds 7 t Z) (ht : t.val ≠ 0) :
    (cfg0.win 7).flush ⟨t.val - 1, Nat.lt_of_le_of_lt (Nat.sub_le _ _) t.isLt⟩ = true
      ∨ T.OutB c ⟨t.val - 1, Nat.lt_of_le_of_lt (Nat.sub_le _ _) t.isLt⟩ Z :=
  (((T.rdat c).finds_of_pos (w := 7) rfl ht Z).mp h).imp id fun h => (T.dat c).toRRel_leaves (w := 7) rfl h

set_option maxHeartbeats 2000000 in
theorem Track.body (c : Dev nD) (t : Fin cfg0.N) :
    T.pre c t ⊢ wp frame (wpE (defs₀ (F := F)) Variants.none c none) Set.univ (bodyAt0 t) (fun _ => T.post c t) := by
  unfold Track.pre Track.post bodyAt0
  simp only [T.before0, T.before1, T.before2, T.before3, T.before4, T.before5]
  rw [show (T.dat c).owesAt () t.succ = (T.dat c).owesAt () t.castSucc from rfl,
    show (T.dat c).Φ t.castSucc = T.Phi c t.val from rfl, show (T.dat c).Φ t.succ = T.Phi c (t.val + 1) from rfl]
  unfold Track.Phi
  iintro ⟨⟨⟨%xb, %ae, %ao, %hI, HS0, HS1, HS2⟩, Hg⟩, Ho, ⟨%d0, H0⟩, ⟨%d1, H1⟩, ⟨%d2, H2⟩, ⟨%d3, H3⟩, ⟨%d4, H4⟩, ⟨%d5, H5⟩, ⟨%Y, %hY, H6⟩, ⟨%Z, %hZ, H7⟩⟩
  have hstep := T.step c t xb ae ao Y Z hI (T.finds c t Y hY) (T.findsB c t Z hZ)
  iapply (run_point c t _ _ _ _ _ _ _ _ _ _ _ _ _ _ _ _ _ _ _ _ _ _ (iblk m c 0 t) (iblk m c 1 t) (iblk m c 2 t) (iblk m c 3 t) (iblk m c 4 t) (iblk m c 5 t) Y Z xb ae ao Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · iexists _, _, _
      isplitr; · ipureintro; exact hstep.1
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr; · ipureintro; exact hstep.2.1
    iexact H6
  iexists _
  isplitr; · ipureintro; exact hstep.2.2
  iexact H7

theorem body_row (t : Fin cfg0.N) :
    defs₀ (F := F) .tc cfg0.body (cfg0.bodyArgs t (cfg0.slots t)) = bodyAt0 t := by
  unfold defs₀; rw [Defs.onTc_tc]

theorem Track.obligation (c : Dev nD) :
    Pipeline.BodyObligationRel (T.dat c) (defs₀ (F := F)) Variants.none () Set.univ held (T.out c) := fun t => by
  rw [bigSep_W0, bigSep_W0, body_row]
  exact triple_restated (T.body c t) rfl .rfl fun _ => .rfl

theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem Track.enter (c : Dev nD) : Pipeline.ΦA spec0 c ⊢ (T.rdat c).Φ 0 := by
  rw [show (T.rdat c).Φ 0 = T.Phi c 0 from rfl, scratch_eq]
  unfold Track.Phi
  iintro ⟨⟨⟨%xb, HS0⟩, ⟨%ae, HS1⟩, ⟨%ao, HS2⟩⟩, Hg⟩
  isplitl [HS0 HS1 HS2]
  · iexists xb, ae, ao
    isplitr; · ipureintro; exact T.start c xb ae ao
    isplitl [HS0]; · iexact HS0
    isplitl [HS1]; · iexact HS1
    iexact HS2
  iexact Hg

theorem Track.leave (c : Dev nD) : (T.rdat c).Φ (Fin.last cfg0.N) ⊢ Pipeline.ΦA spec0 c := by
  rw [show (T.rdat c).Φ (Fin.last cfg0.N) = T.Phi c cfg0.N from rfl, scratch_eq]
  unfold Track.Phi
  iintro ⟨⟨%xb, %ae, %ao, -, HS0, HS1, HS2⟩, Hg⟩
  isplitl [HS0 HS1 HS2]
  · isplitl [HS0]; · iexists _; iexact HS0
    isplitl [HS1]; · iexists _; iexact HS1
    iexists _; iexact HS2
  iexact Hg

/-- What holds when the program has ended: the staged arrays as the proof data has them, every other buffer as the region
    found it. -/
abbrev Track.End : PUnit × MemSt nD τ sig (Elt F) → Prop := Pipeline.RDat.FramePost (cfgs 0) T.rdat (V m)

set_option backward.isDefEq.respectTransparency.types false in
/-- The whole run. -/
theorem Track.run : θ_run defs (onTc (τ := τ) (main (F := F))) (s₀ m ρ) (fun r => T.End r ∧ r.2.sem = fun _ => 0) :=
  Pipeline.RDat.θ_run_frame_track (Q' := _) cfgs (0 : Fin 1) launch0 defs₀ Variants.none T.rdat m ρ main
    (hbody := fun c => (T.obligation c).toRRel) (hshare := fun c => (T.dat c).share_full fun _ => rfl)
    (howed := fun _ _ => rfl) (V := V m) (hmain := hmain m Variants.none) (hA := T.A_eq) (hin := T.enter) (hout := T.leave)
    (hQ' := fun _ h => h)

include T in
/-- The arguments end unchanged. -/
theorem Track.frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePost.arr_in h.1 c 0 rfl).trans ((T.A_eq c 0).trans (V_main_arg0 m c)),
     (h.1 c).2 main_arg1 (Pipeline.mem_restRefs_of main_arg1 (by decide) (by decide)) |>.trans (V_main_arg1 m c),
     (h.1 c).2 main_arg2 (Pipeline.mem_restRefs_of main_arg2 (by decide) (by decide)) |>.trans (V_main_arg2 m c),
     (h.1 c).2 main_arg3 (Pipeline.mem_restRefs_of main_arg3 (by decide) (by decide)) |>.trans (V_main_arg3 m c),
     (h.1 c).2 main_arg4 (Pipeline.mem_restRefs_of main_arg4 (by decide) (by decide)) |>.trans (V_main_arg4 m c),
     (h.1 c).2 main_arg5 (Pipeline.mem_restRefs_of main_arg5 (by decide) (by decide)) |>.trans (V_main_arg5 m c)⟩, h.2⟩)
    (T.run ρ)

/-- Nothing tracked. -/
def Track.any : Track m := ⟨fun _ _ _ _ _ => True, fun _ _ _ => True, fun _ _ _ => True, fun _ _ _ _ => trivial,
  fun _ _ _ _ _ _ _ _ _ _ => ⟨trivial, trivial, trivial⟩⟩

end Cert.Kernel2Ideal.Ffn

end
-- ==== Proof.Ffn1.Value.lean ====
/- The value of the first feed-forward kernel (`Kernel2Ideal`) at the extended reals: what its accumulators hold after every grid
   point, and that the array it leaves is the reference's composed term. -/
module

public import proofs.«01_k».proof.Proof.Ffn1.Track
public import proofs.«01_k».proof.Proof.Gen.Reference2Ideal
public import Idealize.ShloMosaic.Lib.Pipeline.ValueKit
public import Idealize.ShloMosaic.Lib.Pipeline.ArrRel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-! ## A row's layer norm -/

/-- The mean of a row. -/
def mean (h : Fin 2048 → EReal) : EReal := Ideal.div (∑ x, h x) (Ideal.ofBits FTy.f32 1157627904#32)

/-- The layer norm of a row `h` at column `j`, with gain `g` and offset `b`. -/
def lnRow (h : Fin 2048 → EReal) (g b : EReal) (j : Fin 2048) : EReal :=
  (h j - mean h) * Ideal.rsqrt (mean (fun x => (h x - mean h) * (h x - mean h)) + Ideal.ofBits FTy.f32 925353388#32) * g + b

/-- The number one half, as the kernel writes it. -/
abbrev half : EReal := Ideal.ofBits FTy.f32 1056964608#32

theorem pay12_at (rows : Vec Ideal S48x2048 .f32) (g b : Vec Ideal S1x2048 .f32) (y0 : Fin 48) (y1 : Fin 2048) :
    k0_pay12 rows k0_pay6 g b (ix2 y0 y1) = lnRow (fun d => half * rows (ix2 y0 d)) (g (ix2 0 y1)) (b (ix2 0 y1)) y1 := by
  pointwise [k0_pay12, k0_pay6]
  rfl

/-! ## The reference -/

section Ref
open Cert.Reference2Ideal

/-- The number `v` in every cell of an array as wide as the hidden layer. -/
abbrev ones : FVec Ideal Cert.Reference2Ideal.S32768x5632 .f32 :=
  broadcastInDim Cert.Reference2Ideal.S32768x5632 ![] Cert.Reference2Ideal.Gen.bcast_S_S32768x5632
    (constant Cert.Reference2Ideal.S_ .f32 0x3F800000#32)

/-- A product with a matrix from the model's width to the hidden one. -/
abbrev up (x : FVec Ideal Cert.Reference2Ideal.S32768x2048 .f32) (w : FVec Ideal Cert.Reference2Ideal.S2048x5632 .f32) :
    FVec Ideal Cert.Reference2Ideal.S32768x5632 .f32 :=
  Host.dotGeneral Cert.Reference2Ideal.dot_S32768x2048_S2048x5632_S32768x5632_1_0_0_1_n_n none x w

/-- `α x + ½ swiglu x`: what the reference normalises. -/
abbrev MIX (x : FVec Ideal Cert.Reference2Ideal.S32768x2048 .f32) (w1 w3 : FVec Ideal Cert.Reference2Ideal.S2048x5632 .f32)
    (w2 : FVec Ideal Cert.Reference2Ideal.S5632x2048 .f32) : FVec Ideal Cert.Reference2Ideal.S32768x2048 .f32 :=
  addf
    (mulf (broadcastInDim Cert.Reference2Ideal.S32768x2048 ![] Cert.Reference2Ideal.Gen.bcast_S_S32768x2048
      (constant Cert.Reference2Ideal.S_ .f32 0x3F9837F0#32)) x)
    (mulf (broadcastInDim Cert.Reference2Ideal.S32768x2048 ![] Cert.Reference2Ideal.Gen.bcast_S_S32768x2048
      (constant Cert.Reference2Ideal.S_ .f32 0x3F000000#32))
      (Host.dotGeneral Cert.Reference2Ideal.dot_S32768x5632_S5632x2048_S32768x2048_1_0_0_1_n_n none
        (mulf (mulf (up x w1) (Host.divf ones (addf ones (Host.exp (Host.negf (up x w1)))))) (up x w3)) w2))

/-- The number `2048` in every cell of a column. -/
abbrev width : FVec Ideal Cert.Reference2Ideal.S32768x1 .f32 :=
  broadcastInDim Cert.Reference2Ideal.S32768x1 ![] Cert.Reference2Ideal.Gen.bcast_S_S32768x1
    (constant Cert.Reference2Ideal.S_ .f32 0x45000000#32)

/-- Every row's mean, as a column. -/
abbrev MEAN (u : FVec Ideal Cert.Reference2Ideal.S32768x2048 .f32) : FVec Ideal Cert.Reference2Ideal.S32768x1 .f32 :=
  Host.divf (broadcastInDim Cert.Reference2Ideal.S32768x1 ![0] Cert.Reference2Ideal.Gen.bcast_S32768_S32768x1_0
    (Host.reduceAdd u (constant Cert.Reference2Ideal.S_ .f32 0x00000000#32)
      Cert.Reference2Ideal.Gen.reducesTo_S32768x2048_S32768_d1 Cert.Reference2Ideal.Gen.h_S_)) width

/-- A column repeated along the rows. -/
abbrev wide (v : FVec Ideal Cert.Reference2Ideal.S32768x1 .f32) : FVec Ideal Cert.Reference2Ideal.S32768x2048 .f32 :=
  broadcastInDim Cert.Reference2Ideal.S32768x2048 ![0, 1] Cert.Reference2Ideal.Gen.bcast_S32768x1_S32768x2048_0_1 v

/-- A row repeated down the columns. -/
abbrev tall (v : FVec Ideal Cert.Reference2Ideal.S2048 .f32) : FVec Ideal Cert.Reference2Ideal.S32768x2048 .f32 :=
  broadcastInDim Cert.Reference2Ideal.S32768x2048 ![0, 1] Cert.Reference2Ideal.Gen.bcast_S1x2048_S32768x2048_0_1
    (broadcastInDim Cert.Reference2Ideal.S1x2048 ![1] Cert.Reference2Ideal.Gen.bcast_S2048_S1x2048_1 v)

/-- The layer norm of every row. -/
abbrev LN (u : FVec Ideal Cert.Reference2Ideal.S32768x2048 .f32) (g b : FVec Ideal Cert.Reference2Ideal.S2048 .f32) :
    FVec Ideal Cert.Reference2Ideal.S32768x2048 .f32 :=
  addf (mulf (mulf (subf u (wide (MEAN u)))
      (wide (Host.rsqrt (addf (MEAN (mulf (subf u (wide (MEAN u))) (subf u (wide (MEAN u)))))
        (broadcastInDim Cert.Reference2Ideal.S32768x1 ![] Cert.Reference2Ideal.Gen.bcast_S_S32768x1
          (constant Cert.Reference2Ideal.S_ .f32 0x3727C5AC#32)))))) (tall g)) (tall b)

/-- The reference's result over its arguments. -/
abbrev REF (x : FVec Ideal Cert.Reference2Ideal.S32768x2048 .f32) (w1 w3 : FVec Ideal Cert.Reference2Ideal.S2048x5632 .f32)
    (w2 : FVec Ideal Cert.Reference2Ideal.S5632x2048 .f32) (g b : FVec Ideal Cert.Reference2Ideal.S2048 .f32) :
    FVec Ideal Cert.Reference2Ideal.S32768x2048 .f32 := LN (MIX x w1 w3 w2) g b

theorem LN_at (u : FVec Ideal Cert.Reference2Ideal.S32768x2048 .f32) (g b : FVec Ideal Cert.Reference2Ideal.S2048 .f32)
    (r : Fin 32768) (j : Fin 2048) :
    LN u g b (ix2 r j) = lnRow (fun d => u (ix2 r d)) (g (ix1 j)) (b (ix1 j)) j := by
  pointwise [LN]
  rfl

/-- A hidden unit over the sums `h` and `k`. -/
def unit (h k : EReal) : EReal := h * Ideal.div 1 (1 + Ideal.exp (0 - h)) * k

theorem MIX_at (x : FVec Ideal Cert.Reference2Ideal.S32768x2048 .f32) (w1 w3 : FVec Ideal Cert.Reference2Ideal.S2048x5632 .f32)
    (w2 : FVec Ideal Cert.Reference2Ideal.S5632x2048 .f32) (r : Fin 32768) (j : Fin 2048) :
    MIX x w1 w3 w2 (ix2 r j) = Ideal.ofBits FTy.f32 0x3F9837F0#32 * x (ix2 r j)
      + half * ∑ q : Fin 5632, unit (∑ d, x (ix2 r d) * w1 (ix2 d q)) (∑ d, x (ix2 r d) * w3 (ix2 d q)) * w2 (ix2 q j) := by
  pointwise [MIX]
  simp only [unit, zero_sub]

end Ref

theorem pay4_at (x : Vec Ideal S512x2048 .f32) (y0 : Fin 512) (y1 : Fin 2048) :
    k0_pay4 x (ix2 y0 y1) = Ideal.ofBits FTy.f32 0x401837F0#32 * x (ix2 y0 y1) := by
  pointwise [k0_pay4]

/-- What a hidden tile adds to an accumulator. -/
def tile (x : Vec Ideal S512x2048 .f32) (w1 w3 : Vec Ideal S2048x512 .bf16) (w2 : Vec Ideal S512x2048 .bf16)
    (y0 : Fin 512) (y1 : Fin 2048) : EReal :=
  ∑ q : Fin 512, unit (∑ d, x (ix2 y0 d) * w1 (ix2 d q)) (∑ d, x (ix2 y0 d) * w3 (ix2 d q)) * w2 (ix2 q y1)

theorem pay5_at (x : Vec Ideal S512x2048 .f32) (w1 w3 : Vec Ideal S2048x512 .bf16) (acc : Vec Ideal S512x2048 .f32)
    (w2 : Vec Ideal S512x2048 .bf16) (y0 : Fin 512) (y1 : Fin 2048) :
    k0_pay5 (k0_pay3 x) w1 w3 acc w2 (ix2 y0 y1) = acc (ix2 y0 y1) + tile x w1 w3 w2 y0 y1 := by
  pointwise [k0_pay5, k0_pay3]
  rfl

variable (m : (ℓ : Loc nD τ sig) → Buf (Elt Ideal) ℓ)

/-- The grid point of row tile `i` and hidden tile `k`. -/
def pt (i k : ℕ) : Fin cfg0.N := ⟨(11 * i + k) % 715, Nat.mod_lt _ (by decide)⟩

theorem pt_eq (t : Fin cfg0.N) (i k : ℕ) (h : t.val = 11 * i + k) : t = pt i k :=
  Fin.ext (by have := t.isLt; have e : cfg0.N = 715 := by decide
              show t.val = (11 * i + k) % 715; omega)

/-- The accumulator of row tile `i` after its hidden tiles `0..k`. -/
def part (c : Dev nD) (i : ℕ) : ℕ → Vec Ideal S512x2048 .f32
  | 0 => k0_pay5 (k0_pay3 (iblk m c 0 (pt i 0))) (iblk m c 1 (pt i 0)) (iblk m c 2 (pt i 0)) (k0_pay4 (iblk m c 0 (pt i 0)))
      (iblk m c 3 (pt i 0))
  | k + 1 => k0_pay5 (k0_pay3 (iblk m c 0 (pt i 0))) (iblk m c 1 (pt i (k + 1))) (iblk m c 2 (pt i (k + 1))) (part c i k)
      (iblk m c 3 (pt i (k + 1)))

/-- Which block each window reads or writes at a grid point. -/
theorem blocks : ∀ t : Fin cfg0.N, win0_0.index t = ![min (t.val / 11) 63, 0]
    ∧ win0_1.index t = ![0, if t.val / 11 = 64 then 10 else t.val % 11]
    ∧ win0_2.index t = ![0, if t.val / 11 = 64 then 10 else t.val % 11]
    ∧ win0_3.index t = ![if t.val / 11 = 64 then 10 else t.val % 11, 0]
    ∧ win0_4.index t = ![0, 0] ∧ win0_5.index t = ![0, 0] ∧ win0_6.index t = ![t.val / 11 - 1, 0]
    ∧ win0_7.index t = ![t.val / 11 - 1, 0] :=
  (by decide +kernel : ∀ t : Fin grid0.N, _)

/-- When the result's block is written back. -/
theorem flushes : ∀ t : Fin cfg0.N, (cfg0.win 6).flush t = true → t.val % 11 = 10 ∧ 21 ≤ t.val :=
  (by decide +kernel : ∀ t : Fin grid0.N, (cfg0.win 6).flush t = true → t.val % 11 = 10 ∧ 21 ≤ t.val)

theorem flushesB : ∀ t : Fin cfg0.N, (cfg0.win 7).flush t = true → t.val % 11 = 10 ∧ 21 ≤ t.val :=
  (by decide +kernel : ∀ t : Fin grid0.N, (cfg0.win 7).flush t = true → t.val % 11 = 10 ∧ 21 ≤ t.val)

theorem gain_at (c : Dev nD) (t : Fin cfg0.N) (j : Fin 2048) :
    iblk m c 4 t (ix2 0 j) = m ((c : Thread nD τ).loc main_arg4) (ix1 j) := by
  blk_point [iblk, V, blocks t]

theorem offset_at (c : Dev nD) (t : Fin cfg0.N) (j : Fin 2048) :
    iblk m c 5 t (ix2 0 j) = m ((c : Thread nD τ).loc main_arg5) (ix1 j) := by
  blk_point [iblk, V, blocks t]

/-- What the scratch holds before point `n`. -/
def Holds (c : Dev nD) (n : ℕ) (xb : Vec Ideal S512x2048 .bf16) (ae ao : Vec Ideal S512x2048 .f32) : Prop :=
  n ≠ 0 →
    ((n - 1) / 11 < 64 → xb = k0_pay3 (iblk m c 0 (pt ((n - 1) / 11) 0))
      ∧ (if (n - 1) / 11 % 2 = 0 then ae else ao) = part m c ((n - 1) / 11) ((n - 1) % 11))
    ∧ (11 ≤ n - 1 → (if (n - 1) / 11 % 2 = 1 then ae else ao) = part m c ((n - 1) / 11 - 1) 10)

/-- What a finished tile's row is normalised to. -/
def rowOf (c : Dev nD) (i : ℕ) (y0 : Fin 512) (y1 : Fin 2048) : EReal :=
  lnRow (fun d => half * part m c i 10 (ix2 y0 d)) (m ((c : Thread nD τ).loc main_arg4) (ix1 y1))
    (m ((c : Thread nD τ).loc main_arg5) (ix1 y1)) y1

/-- What the result's buffer holds after point `t`: the rows normalised so far. -/
def Rows (c : Dev nD) (t : Fin cfg0.N) (X : S512x2048.Idx → EReal) : Prop :=
  11 ≤ t.val → ∀ (y0 : Fin 512) (y1 : Fin 2048), y0.val < 48 * (t.val % 11 + 1) → X (ix2 y0 y1) = rowOf m c (t.val / 11 - 1) y0 y1

/-- The accumulator that a point normalises. -/
theorem finished (c : Dev nD) (t : ℕ) (xb ae ao) (h : Holds m c t xb ae ao) (ht : 11 ≤ t) (hN : t < 715) :
    (if t / 11 % 2 = 1 then ae else ao) = part m c (t / 11 - 1) 10 := by
  obtain ⟨h1, h2⟩ := h (by omega)
  by_cases hk : t % 11 = 0
  · have := (h1 (by omega)).2
    have e1 : (t - 1) / 11 = t / 11 - 1 := by omega
    have e2 : (t - 1) % 11 = 10 := by omega
    rw [e1, e2] at this
    rw [← this]
    by_cases hp : t / 11 % 2 = 1
    · rw [if_pos hp, if_pos (by omega)]
    · rw [if_neg hp, if_neg (by omega)]
  · have e1 : (t - 1) / 11 = t / 11 := by omega
    have := h2 (by omega)
    rwa [e1] at this

/-- The scratch after a point. -/
theorem holds_next (c : Dev nD) (t : Fin cfg0.N) (xb ae ao) (h : Holds m c t.val xb ae ao) :
    Holds m c (t.val + 1) (xbNext t.val (iblk m c 0 t) xb)
      (evenNext t.val (iblk m c 0 t) (iblk m c 1 t) (iblk m c 2 t) (iblk m c 3 t) xb ae)
      (oddNext t.val (iblk m c 0 t) (iblk m c 1 t) (iblk m c 2 t) (iblk m c 3 t) xb ao) := by
  have hN : t.val < 715 := t.isLt
  intro _
  rw [Nat.add_sub_cancel]
  refine ⟨fun hi => ?_, fun hi => ?_⟩
  · have hx : xbNext t.val (iblk m c 0 t) xb = k0_pay3 (iblk m c 0 (pt (t.val / 11) 0)) := by
      unfold xbNext
      by_cases hk : t.val % 11 = 0
      · rw [if_pos ⟨hk, by omega⟩, ← pt_eq t (t.val / 11) 0 (by omega)]
      · rw [if_neg (by omega), ((h (by omega)).1 (by omega)).1]
        rw [show (t.val - 1) / 11 = t.val / 11 by omega]
    have ha : ∀ a, (t.val % 11 ≠ 0 → a = part m c (t.val / 11) (t.val % 11 - 1)) →
        accNext t.val (iblk m c 0 t) (iblk m c 1 t) (iblk m c 2 t) (iblk m c 3 t) xb a = part m c (t.val / 11) (t.val % 11) := by
      intro a hA
      unfold accNext
      rw [hx]
      by_cases hk : t.val % 11 = 0
      · rw [if_pos hk, hk, part, ← pt_eq t (t.val / 11) 0 (by omega)]
      · obtain ⟨k, hk'⟩ : ∃ k, t.val % 11 = k + 1 := ⟨t.val % 11 - 1, by omega⟩
        rw [if_neg hk, hA hk, hk', Nat.add_sub_cancel, part, ← pt_eq t (t.val / 11) (k + 1) (by omega)]
    refine ⟨hx, ?_⟩
    have hprev : t.val % 11 ≠ 0 → (if t.val / 11 % 2 = 0 then ae else ao) = part m c (t.val / 11) (t.val % 11 - 1) := by
      intro hk
      have := ((h (by omega)).1 (by omega)).2
      rwa [show (t.val - 1) / 11 = t.val / 11 by omega, show (t.val - 1) % 11 = t.val % 11 - 1 by omega] at this
    by_cases hp : t.val / 11 % 2 = 0
    · rw [if_pos hp, evenNext, if_pos ⟨hp, by omega⟩]
      exact ha _ fun hk => by have := hprev hk; rwa [if_pos hp] at this
    · rw [if_neg hp, oddNext, if_neg (by omega), if_pos (by omega)]
      exact ha _ fun hk => by have := hprev hk; rwa [if_neg hp] at this
  · have := finished m c t.val xb ae ao h hi hN
    rw [← this]
    by_cases hp : t.val / 11 % 2 = 1
    · rw [if_pos hp, if_pos hp, evenNext, if_neg (by omega)]
    · rw [if_neg hp, if_neg hp, oddNext, if_neg (by omega), if_neg hp]

theorem coord1 (t : Fin cfg0.N) : (grid0.coords t 1).val = t.val % 11 := by
  have h : (grid0.coords t 1).val = t.val / 1 % 11 := Pipeline.Grid.coords_val t 1 (by decide) rfl
  rwa [Nat.div_one] at h

/-- The rows of the result's buffer after a point. -/
theorem rows_next (c : Dev nD) (t : Fin cfg0.N) (xb ae ao Y) (h : Holds m c t.val xb ae ao)
    (hY : t.val ≠ 0 → (t.val - 1) % 11 = 10
      ∨ Rows m c ⟨t.val - 1, Nat.lt_of_le_of_lt (Nat.sub_le _ _) t.isLt⟩ Y) :
    Rows m c t (outNext t (iblk m c 4 t) (iblk m c 5 t) Y ae ao) := by
  intro ht y0 y1 hy
  have hN : t.val < 715 := t.isLt
  have hA : (if t.val / 11 % 2 = 1 then ae else if t.val = 0 then k0_pay11 (F := Ideal) else ao) = part m c (t.val / 11 - 1) 10 := by
    rw [if_neg (show ¬ t.val = 0 by omega)]
    exact finished m c t.val xb ae ao h ht hN
  unfold outNext
  rw [hA]
  unfold putRows VecWindow.put
  have o0 : rowOff (grid0.coords t) 0 = min (48 * (t.val % 11)) 464 := by
    show min (48 * (grid0.coords t 1).val) 464 = _
    rw [coord1]
  have o1 : rowOff (grid0.coords t) 1 = 0 := rfl
  by_cases hin : rowOff (grid0.coords t) 0 ≤ y0.val
  · rw [dif_pos (by
      intro a
      match a with
      | 0 => exact ⟨hin, by show y0.val < rowOff (grid0.coords t) 0 + 48; have := y0.isLt; omega⟩
      | 1 => exact ⟨by rw [o1]; exact Nat.zero_le _, by show y1.val < rowOff (grid0.coords t) 1 + 2048; rw [o1]; have := y1.isLt; omega⟩)]
    have hlt : y0.val - rowOff (grid0.coords t) 0 < 48 := by have := y0.isLt; omega
    refine Eq.trans (congrArg (normed (grid0.coords t) (part m c (t.val / 11 - 1) 10) (iblk m c 4 t) (iblk m c 5 t))
      (a₂ := ix2 ⟨y0.val - rowOff (grid0.coords t) 0, hlt⟩ y1) ?_) ?_
    · funext a
      match a with
      | 0 => exact Fin.ext rfl
      | 1 => exact Fin.ext (by show y1.val - rowOff (grid0.coords t) 1 = y1.val; rw [o1, Nat.sub_zero])
    unfold normed
    rw [pay12_at, gain_at, offset_at]
    unfold rowOf
    refine congrArg (fun h => lnRow h _ _ y1) (funext fun d => congrArg (fun v => half * v) ?_)
    refine congrArg (part m c (t.val / 11 - 1) 10) (funext fun a => ?_)
    match a with
    | 0 => exact Fin.ext (by show rowOff (grid0.coords t) 0 + 1 * (y0.val - rowOff (grid0.coords t) 0) = y0.val; omega)
    | 1 => exact Fin.ext (by show rowOff (grid0.coords t) 1 + 1 * d.val = d.val; rw [o1]; omega)
  · rw [dif_neg (fun hall => hin (hall 0).1)]
    rcases hY (by omega) with hf | hr
    · exact absurd hf (by omega)
    · have e1 : (t.val - 1) / 11 = t.val / 11 := by omega
      have := hr (by show 11 ≤ t.val - 1; omega) y0 y1 (by show y0.val < 48 * ((t.val - 1) % 11 + 1); omega)
      rw [this]
      show rowOf m c ((t.val - 1) / 11 - 1) y0 y1 = _
      rw [e1]

/-- Rounding changes nothing at the extended reals: both results' buffers get the same rows. -/
theorem outNextB_eq (t : Fin cfg0.N) (g b : Vec Ideal S1x2048 .f32) (Z : Vec Ideal S512x2048 .bf16) (ae ao : Vec Ideal S512x2048 .f32) :
    (outNextB t g b Z ae ao : S512x2048.Idx → EReal) = outNext t g b (Z : S512x2048.Idx → EReal) ae ao := rfl

/-! ## The accumulators as sums -/

/-- What hidden tile `k` adds to row tile `i`'s accumulator. -/
def share (c : Dev nD) (i k : ℕ) (y0 : Fin 512) (y1 : Fin 2048) : EReal :=
  tile (iblk m c 0 (pt i 0)) (iblk m c 1 (pt i k)) (iblk m c 2 (pt i k)) (iblk m c 3 (pt i k)) y0 y1

theorem part_at (c : Dev nD) (i k : ℕ) (y0 : Fin 512) (y1 : Fin 2048) :
    part m c i k (ix2 y0 y1) = k0_pay4 (iblk m c 0 (pt i 0)) (ix2 y0 y1)
      + ∑ s ∈ Finset.range (k + 1), share m c i s y0 y1 := by
  induction k with
  | zero => rw [part, pay5_at, Finset.sum_range_one]; rfl
  | succ k ih => rw [part, pay5_at, ih, Finset.sum_range_succ _ (k + 1), ← add_assoc]; rfl

theorem half_eq : half = (((1 : ℝ) / 2 : ℝ) : EReal) := by
  simp [half, Ideal.ofBits, Ideal.ieee, -EReal.coe_mul]; norm_num

theorem half_nonneg : (0 : EReal) ≤ half := by
  rw [half_eq]
  exact_mod_cast (by norm_num : (0 : ℝ) ≤ 1 / 2)

theorem half_ne_top : half ≠ ⊤ := by
  rw [half_eq]
  exact EReal.coe_ne_top _

/-- The kernel's factor is twice the reference's. -/
theorem half_two : half * Ideal.ofBits FTy.f32 0x401837F0#32 = Ideal.ofBits FTy.f32 0x3F9837F0#32 := by
  have h1 : Ideal.ofBits FTy.f32 0x401837F0#32 = (((9975792 : ℝ) / 4194304 : ℝ) : EReal) := by
    simp [Ideal.ofBits, Ideal.ieee, -EReal.coe_mul]; norm_num
  have h2 : Ideal.ofBits FTy.f32 0x3F9837F0#32 = (((9975792 : ℝ) / 8388608 : ℝ) : EReal) := by
    simp [Ideal.ofBits, Ideal.ieee, -EReal.coe_mul]; norm_num
  rw [half_eq, h1, h2, ← EReal.coe_mul]
  norm_num

theorem x_at (c : Dev nD) (i k : ℕ) (hi : i < 64) (hk : k < 11) (y0 : Fin 512) (d : Fin 2048) :
    iblk m c 0 (pt i k) (ix2 y0 d) = m ((c : Thread nD τ).loc main_arg0) (ix2 ⟨512 * i + y0.val, by have := y0.isLt; omega⟩ d) := by
  have e : (pt i k).val = 11 * i + k := Nat.mod_eq_of_lt (by omega)
  blk_point [iblk, V, blocks (pt i k)]

theorem w1_at (c : Dev nD) (i k : ℕ) (hi : i < 64) (hk : k < 11) (d : Fin 2048) (q : Fin 512) :
    iblk m c 1 (pt i k) (ix2 d q) = m ((c : Thread nD τ).loc main_arg1) (ix2 d ⟨k * 512 + q.val, by have := q.isLt; omega⟩) := by
  have e : (pt i k).val = 11 * i + k := Nat.mod_eq_of_lt (by omega)
  blk_point [iblk, V, blocks (pt i k)]
  rw [e]
  split_ifs <;> omega

theorem w3_at (c : Dev nD) (i k : ℕ) (hi : i < 64) (hk : k < 11) (d : Fin 2048) (q : Fin 512) :
    iblk m c 2 (pt i k) (ix2 d q) = m ((c : Thread nD τ).loc main_arg2) (ix2 d ⟨k * 512 + q.val, by have := q.isLt; omega⟩) := by
  have e : (pt i k).val = 11 * i + k := Nat.mod_eq_of_lt (by omega)
  blk_point [iblk, V, blocks (pt i k)]
  rw [e]
  split_ifs <;> omega

theorem w2_at (c : Dev nD) (i k : ℕ) (hi : i < 64) (hk : k < 11) (q : Fin 512) (j : Fin 2048) :
    iblk m c 3 (pt i k) (ix2 q j) = m ((c : Thread nD τ).loc main_arg3) (ix2 ⟨k * 512 + q.val, by have := q.isLt; omega⟩ j) := by
  have e : (pt i k).val = 11 * i + k := Nat.mod_eq_of_lt (by omega)
  blk_point [iblk, V, blocks (pt i k)]
  rw [e]
  split_ifs <;> omega

/-- A finished row tile is twice what the reference normalises. -/
theorem part_mix (c : Dev nD) (i : ℕ) (hi : i < 64) (y0 : Fin 512) (y1 : Fin 2048) :
    half * part m c i 10 (ix2 y0 y1)
      = MIX (m ((c : Thread nD τ).loc main_arg0)) (m ((c : Thread nD τ).loc main_arg1)) (m ((c : Thread nD τ).loc main_arg2))
          (m ((c : Thread nD τ).loc main_arg3)) (ix2 ⟨512 * i + y0.val, by have := y0.isLt; omega⟩ y1) := by
  rw [MIX_at, part_at, pay4_at, x_at m c i 0 hi (by omega), EReal.left_distrib_of_nonneg_of_ne_top half_nonneg half_ne_top,
    ← mul_assoc, half_two]
  refine congrArg₂ (· + ·) rfl (congrArg (half * ·) ?_)
  rw [Finset.sum_range]
  refine Fin.sum_mul_add_congr fun s q hl => ?_
  rw [w2_at m c i s.val hi s.isLt]
  simp only [x_at m c i 0 hi (by omega), w1_at m c i s.val hi s.isLt, w3_at m c i s.val hi s.isLt]

/-! ## The result array -/

/-- The property of the scratch and of the result's buffer that the grid's points keep. -/
def track : Track m where
  Inv := Holds m
  Out := Rows m
  OutB := Rows m
  start := fun _ _ _ _ h => absurd rfl h
  step := fun c t xb ae ao Y Z h hY hZ => ⟨holds_next m c t xb ae ao h,
    rows_next m c t xb ae ao Y h fun h0 => (hY h0).imp (fun hf => (flushes _ hf).1) id, by
      refine Eq.mp (congrArg (Rows m c t) (outNextB_eq t _ _ Z ae ao).symm) ?_
      exact rows_next m c t xb ae ao _ h fun h0 => (hZ h0).imp (fun hf => (flushesB _ hf).1) id⟩

/-- The reference's result over the kernel's arguments. -/
abbrev ref (c : Dev nD) : FVec Ideal Cert.Reference2Ideal.S32768x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem row_ref (c : Dev nD) (i : ℕ) (hi : i < 64) (y0 : Fin 512) (y1 : Fin 2048) :
    rowOf m c i y0 y1 = ref m c (ix2 ⟨512 * i + y0.val, by have := y0.isLt; omega⟩ y1) := by
  refine Eq.trans ?_ (LN_at _ _ _ _ _).symm
  exact congrArg (fun h => lnRow h _ _ y1) (funext fun d => part_mix m c i hi y0 d)

/-- A block as it is written back, at a cell. -/
theorem block_ref (c : Dev nD) (t : Fin cfg0.N) (hf : (cfg0.win 6).flush t = true) (X : Vec Ideal S512x2048 .f32) (h : Rows m c t X)
    (y : S512x2048.Idx) : X y = ref m c (((cfg0.win 6).blk t).view.emb y) := by
  obtain ⟨h10, h21⟩ := flushes t hf
  have hN : t.val < 715 := t.isLt
  have e : ((cfg0.win 6).blk t).view.emb y = ix2 ⟨512 * (t.val / 11 - 1) + (y 0).val, by have : (y 0).val < 512 := (y 0).isLt; omega⟩ (y 1) := by
    blk_ext! [blocks t]
  rw [e]
  refine Eq.trans ?_ (row_ref m c (t.val / 11 - 1) (by omega) (y 0) (y 1))
  refine Eq.trans ?_ (h (by omega) (y 0) (y 1) (by have : (y 0).val < 512 := (y 0).isLt; omega))
  exact congrArg X (funext fun a => match a with | 0 => rfl | 1 => rfl)

/-- The result array after the run. -/
theorem result (r) (h : (track m).End r) (c : Dev nD) :
    r.2.mem ((c : Thread nD τ).loc main_v5_0) = ref m c := by
  obtain ⟨after, hl, harr⟩ := Pipeline.RDat.FramePost.exists_exact h c
  have hm := harr 6
  refine hm.trans ?_
  refine Dat.arrAt_eq_of_covers _ 6 _ (by decide +kernel) fun t hf y => ?_
  have hR : Rows m c t (after 6 t) := Dat.toRRel_leaves ((track m).dat c) (w := 6) rfl (hl 6 t hf)
  exact block_ref m c t hf _ hR y

/-- The reference's second result: the first one rounded. -/
abbrev refB (c : Dev nD) : FVec Ideal Cert.Reference2Ideal.S32768x2048 .bf16 :=
  truncf .bf16 (ref m c) Cert.Reference2Ideal.Gen.bitsLt_bf16_f32

/-- A block of the second result as it is written back, at a cell. -/
theorem blockB_ref (c : Dev nD) (t : Fin cfg0.N) (hf : (cfg0.win 7).flush t = true) (X : Vec Ideal S512x2048 .bf16) (h : Rows m c t X)
    (y : S512x2048.Idx) : X y = refB m c (((cfg0.win 7).blk t).view.emb y) := by
  obtain ⟨h10, h21⟩ := flushesB t hf
  have hN : t.val < 715 := t.isLt
  have e : ((cfg0.win 7).blk t).view.emb y = ix2 ⟨512 * (t.val / 11 - 1) + (y 0).val, by have : (y 0).val < 512 := (y 0).isLt; omega⟩ (y 1) := by
    blk_ext! [blocks t]
  rw [e]
  refine Eq.trans ?_ (row_ref m c (t.val / 11 - 1) (by omega) (y 0) (y 1))
  refine Eq.trans ?_ (h (by omega) (y 0) (y 1) (by have : (y 0).val < 512 := (y 0).isLt; omega))
  exact congrArg X (funext fun a => match a with | 0 => rfl | 1 => rfl)

/-- The second result array after the run. -/
theorem resultB (r) (h : (track m).End r) (c : Dev nD) :
    r.2.mem ((c : Thread nD τ).loc main_v5_1) = refB m c := by
  obtain ⟨after, hl, harr⟩ := Pipeline.RDat.FramePost.exists_exact h c
  have hm := harr 7
  refine hm.trans ?_
  refine Dat.arrAt_eq_of_covers _ 7 _ (by decide +kernel) fun t hf y => ?_
  have hR : Rows m c t (after 7 t) := Dat.toRRel_leaves ((track m).dat c) (w := 7) rfl (hl 7 t hf)
  exact blockB_ref m c t hf _ hR y

/-- The whole run: the results are the reference's, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5_0) = ref m c
      ∧ r.2.mem ((c.tc : Thread nD τ).loc main_v5_1) = refB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and ((track m).run ρ) ((track m).frame ρ)) fun r h c => ⟨result m r h.1.1 c, resultB m r h.1.1 c, h.2.1 c⟩

end Cert.Kernel2Ideal.Ffn
end
-- ==== Proof.Merge.Run.lean ====
/- One point of the merge of the two branches (`Kernel3Ideal`): the body run on buffers at given contents, case by case of its
   tests, with what each buffer holds afterwards. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid, as the body tests it. -/
abbrev isStart (i : grid0.Coords) : Prop :=
  (Scalar.cmpi .ne (Scalar.extui (Scalar.cmpi .eq (BitVec.ofNat 32 (i 0).val) 0#32)) 0#32) = 1#1

/-- A load of everything from a whole memref held at the contents that read `X` reads `X`. -/
theorem whole_read {s : Shape} {e : EltTy} {r : Memref sig .tc .vmem s e} (h : r.IsWhole) (X : s.Idx → Elt F e)
    {off : Fin s.rank → ℕ} (inb : ∀ a, off a + s.size a ≤ s.size a) :
    View.readAt (Elt F) r.view (Rect.unit off s.size inb).toLoadRect (h.unread X) = X :=
  (View.readAt_full _ _ inb).trans (h.read_unread X)

/-- A load of a part of such a memref reads that window of `X`. -/
theorem part_read {s : Shape} {e : EltTy} {r : Memref sig .tc .vmem s e} (h : r.IsWhole) (X : s.Idx → Elt F e)
    (off size : Fin s.rank → ℕ) (inb : ∀ a, off a + size a ≤ s.size a) :
    View.readAt (Elt F) r.view (Rect.unit off size inb).toLoadRect (h.unread X) = VecWindow.window X off size inb :=
  (View.readAt_unit _ _ _ rfl inb).trans (by rw [h.read_unread X])

/-- The first half of the hidden columns of an up projection's weight. -/
def colsA (w : Vec F S1024x2048 .bf16) : Vec F S1024x1024 .bf16 :=
  VecWindow.window w ![0, 0] S1024x1024.size inb_S1024x2048_S1024x1024_0_0

/-- The second half of them. -/
def colsB (w : Vec F S1024x2048 .bf16) : Vec F S1024x1024 .bf16 :=
  VecWindow.window w ![0, 1024] S1024x1024.size inb_S1024x2048_S1024x1024_0_1024

/-- The first half of the rows of the output weight. -/
def rowsA (w : Vec F S2048x2048 .bf16) : Vec F S1024x2048 .bf16 :=
  VecWindow.window w ![0, 0] S1024x2048.size inb_S2048x2048_S1024x2048_0_0

/-- The second half of them. -/
def rowsB (w : Vec F S2048x2048 .bf16) : Vec F S1024x2048 .bf16 :=
  VecWindow.window w ![1024, 0] S1024x2048.size inb_S2048x2048_S1024x2048_1024_0

/-- A tile of rows before it is normalised: the two branches gated, added and projected, and the skip connection. -/
def mixed (x0 x1 x2 x3 x4 x5 : Vec F S256x1024 .bf16) (x6 : Vec F S256x2048 .f32) (x7 x8 : Vec F S1024x2048 .bf16)
    (x9 : Vec F S2048x2048 .bf16) : Vec F S256x2048 .f32 :=
  k0_pay9 (k0_pay8 x0 (colsA x7) x1 (colsA x8) x2 x4 (rowsA x9)) x0 (colsB x7) x1 (colsB x8) x3 x5 (rowsB x9) x6

set_option maxHeartbeats 4000000 in
/-- The first point of the grid. -/
theorem runA (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole)
    (h1 : isStart i)
    (h2 : k0_cond2 i = 1#1)
    (h3 : ¬k0_cond3 i = 1#1)
    (h4 : ¬k0_cond4 i = 1#1)
    (h5 : ¬k0_cond5 i = 1#1)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x2048 .f32) (x7 : Vec F S1024x2048 .bf16) (x8 : Vec F S1024x2048 .bf16) (x9 : Vec F S2048x2048 .bf16) (x10 : Vec F S1x2048 .f32) (x11 : Vec F S1x2048 .f32) (Y : Vec F S256x2048 .f32) (ye : Vec F S256x2048 .f32) (yo : Vec F S256x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare Y ∗ owns (c : Thread nD τ) arg14 fullShare ye ∗ owns (c : Thread nD τ) arg15 fullShare yo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay3 k0_pay1 x10 x11) ∗ owns (c : Thread nD τ) arg14 fullShare (k0_pay2 (mixed x0 x1 x2 x3 x4 x5 x6 x7 x8 x9)) ∗ owns (c : Thread nD τ) arg15 fullShare k0_pay1) -∗ K ⟨⟩))
      ⊢ wp frame (wpE (defs₀ (F := F)) Variants.none c none) E (cc0_merge_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_merge_ln_eq_skeleton]; unfold cc0_merge_ln_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]; repeat rw [whole_read]
      unfold runA.sl.v106 runA.sl.HS1_1; rw [View.readCov_full]
    isplitl [HS0]
    · iexists _; isplitr; swap; · iexact HS0
      ipureintro
      rw [View.read_writes_full]; repeat rw [whole_read]
      repeat rw [part_read]
      rfl
    · iexists _; isplitr; swap; · iexact HS1
      ipureintro
      unfold runA.sl.HS1_1; rw [View.read_writes_full]

set_option maxHeartbeats 4000000 in
/-- A later point with an even number. -/
theorem runB (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole)
    (h1 : ¬isStart i)
    (h2 : k0_cond2 i = 1#1)
    (h3 : ¬k0_cond3 i = 1#1)
    (h4 : ¬k0_cond4 i = 1#1)
    (h5 : ¬k0_cond5 i = 1#1)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x2048 .f32) (x7 : Vec F S1024x2048 .bf16) (x8 : Vec F S1024x2048 .bf16) (x9 : Vec F S2048x2048 .bf16) (x10 : Vec F S1x2048 .f32) (x11 : Vec F S1x2048 .f32) (Y : Vec F S256x2048 .f32) (ye : Vec F S256x2048 .f32) (yo : Vec F S256x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare Y ∗ owns (c : Thread nD τ) arg14 fullShare ye ∗ owns (c : Thread nD τ) arg15 fullShare yo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay3 yo x10 x11) ∗ owns (c : Thread nD τ) arg14 fullShare (k0_pay2 (mixed x0 x1 x2 x3 x4 x5 x6 x7 x8 x9)) ∗ owns (c : Thread nD τ) arg15 fullShare yo) -∗ K ⟨⟩))
      ⊢ wp frame (wpE (defs₀ (F := F)) Variants.none c none) E (cc0_merge_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_merge_ln_eq_skeleton]; unfold cc0_merge_ln_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]; repeat rw [whole_read]
    isplitl [HS0]
    · iexists _; isplitr; swap; · iexact HS0
      ipureintro
      rw [View.read_writes_full]; repeat rw [whole_read]
      repeat rw [part_read]
      rfl
    · iexists _; isplitr; · ipureintro; exact harg15.read_unread _
      iexact HS1

set_option maxHeartbeats 4000000 in
/-- A point with an odd number. -/
theorem runC (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole)
    (h1 : ¬isStart i)
    (h2 : ¬k0_cond2 i = 1#1)
    (h3 : k0_cond3 i = 1#1)
    (h4 : ¬k0_cond4 i = 1#1)
    (h5 : ¬k0_cond5 i = 1#1)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x2048 .f32) (x7 : Vec F S1024x2048 .bf16) (x8 : Vec F S1024x2048 .bf16) (x9 : Vec F S2048x2048 .bf16) (x10 : Vec F S1x2048 .f32) (x11 : Vec F S1x2048 .f32) (Y : Vec F S256x2048 .f32) (ye : Vec F S256x2048 .f32) (yo : Vec F S256x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare Y ∗ owns (c : Thread nD τ) arg14 fullShare ye ∗ owns (c : Thread nD τ) arg15 fullShare yo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay5 ye x10 x11) ∗ owns (c : Thread nD τ) arg14 fullShare ye ∗ owns (c : Thread nD τ) arg15 fullShare (k0_pay4 (mixed x0 x1 x2 x3 x4 x5 x6 x7 x8 x9))) -∗ K ⟨⟩))
      ⊢ wp frame (wpE (defs₀ (F := F)) Variants.none c none) E (cc0_merge_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_merge_ln_eq_skeleton]; unfold cc0_merge_ln_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]; repeat rw [whole_read]
    isplitl [HS0]
    · iexists _; isplitr; · ipureintro; exact harg14.read_unread _
      iexact HS0
    · iexists _; isplitr; swap; · iexact HS1
      ipureintro
      rw [View.read_writes_full]; repeat rw [whole_read]
      repeat rw [part_read]
      rfl

set_option maxHeartbeats 4000000 in
/-- The last point. -/
theorem runD (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole)
    (h1 : ¬isStart i)
    (h2 : ¬k0_cond2 i = 1#1)
    (h3 : ¬k0_cond3 i = 1#1)
    (h4 : k0_cond4 i = 1#1)
    (h5 : ¬k0_cond5 i = 1#1)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x2048 .f32) (x7 : Vec F S1024x2048 .bf16) (x8 : Vec F S1024x2048 .bf16) (x9 : Vec F S2048x2048 .bf16) (x10 : Vec F S1x2048 .f32) (x11 : Vec F S1x2048 .f32) (Y : Vec F S256x2048 .f32) (ye : Vec F S256x2048 .f32) (yo : Vec F S256x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare Y ∗ owns (c : Thread nD τ) arg14 fullShare ye ∗ owns (c : Thread nD τ) arg15 fullShare yo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (k0_pay6 yo x10 x11) ∗ owns (c : Thread nD τ) arg14 fullShare ye ∗ owns (c : Thread nD τ) arg15 fullShare yo) -∗ K ⟨⟩))
      ⊢ wp frame (wpE (defs₀ (F := F)) Variants.none c none) E (cc0_merge_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    simp only [cc0_merge_ln_eq_skeleton]; unfold cc0_merge_ln_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      rw [View.read_writes_full]; repeat rw [whole_read]
    isplitl [HS0]
    · iexists _; isplitr; · ipureintro; exact harg14.read_unread _
      iexact HS0
    · iexists _; isplitr; · ipureintro; exact harg15.read_unread _
      iexact HS1

end Cert.Kernel3Ideal.Merge

end
-- ==== Proof.Merge.Track.lean ====
/- The run of the merge of the two branches over its whole grid (`Kernel3Ideal`): each point leaves a tile's rows in one of two
   scratch buffers and normalises the rows that the point before left in the other. -/
module

public import proofs.«01_k».proof.Proof.Merge.Run
public import Idealize.ShloMosaic.Lib.Pipeline.DatRel

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- When each test of the body holds. -/
theorem tests : ∀ t : Fin cfg0.N, (isStart (grid0.coords t) ↔ t.val = 0)
    ∧ (k0_cond2 (grid0.coords t) = 1#1 ↔ t.val < 128 ∧ t.val % 2 = 0) ∧ (k0_cond3 (grid0.coords t) = 1#1 ↔ t.val % 2 = 1)
    ∧ (k0_cond4 (grid0.coords t) = 1#1 ↔ t.val = 128) ∧ ¬k0_cond5 (grid0.coords t) = 1#1 :=
  (by decide +kernel : ∀ t : Fin grid0.N, _)

/-- The scratch of the even tiles after a point. -/
def evenNext (t : ℕ) (tile ye : Vec F S256x2048 .f32) : Vec F S256x2048 .f32 :=
  if t % 2 = 0 ∧ t < 128 then k0_pay2 tile else ye

/-- The scratch of the odd tiles after a point. -/
def oddNext (t : ℕ) (tile yo : Vec F S256x2048 .f32) : Vec F S256x2048 .f32 :=
  if t = 0 then k0_pay1 else if t % 2 = 1 then k0_pay4 tile else yo

/-- The result's buffer after a point: the rows left by the point before, normalised. -/
def outNext (t : ℕ) (g b : Vec F S1x2048 .f32) (ye yo : Vec F S256x2048 .f32) : Vec F S256x2048 .f32 :=
  k0_pay3 (if t % 2 = 1 then ye else if t = 0 then k0_pay1 else yo) g b

/-- The body at any point, its buffers held at given contents. -/
theorem run_point (c : Dev nD) (t : Fin cfg0.N) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x2048 .f32) (harg15 : arg15.IsWhole)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S256x2048 .f32) (x7 : Vec F S1024x2048 .bf16) (x8 : Vec F S1024x2048 .bf16) (x9 : Vec F S2048x2048 .bf16) (x10 : Vec F S1x2048 .f32) (x11 : Vec F S1x2048 .f32) (Y : Vec F S256x2048 .f32) (ye : Vec F S256x2048 .f32) (yo : Vec F S256x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare Y ∗ owns (c : Thread nD τ) arg14 fullShare ye ∗ owns (c : Thread nD τ) arg15 fullShare yo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outNext t.val x10 x11 ye yo) ∗ owns (c : Thread nD τ) arg14 fullShare (evenNext t.val (mixed x0 x1 x2 x3 x4 x5 x6 x7 x8 x9) ye) ∗ owns (c : Thread nD τ) arg15 fullShare (oddNext t.val (mixed x0 x1 x2 x3 x4 x5 x6 x7 x8 x9) yo)) -∗ K ⟨⟩))
      ⊢ wp frame (wpE (defs₀ (F := F)) Variants.none c none) E (cc0_merge_ln (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  obtain ⟨i1, i2, i3, i4, i5⟩ := tests t
  have hN : t.val < 129 := t.isLt
  by_cases h0 : t.val = 0
  · rw [show outNext t.val x10 x11 ye yo = k0_pay3 k0_pay1 x10 x11 by unfold outNext; rw [if_neg (by omega), if_pos h0],
      show evenNext t.val (mixed x0 x1 x2 x3 x4 x5 x6 x7 x8 x9) ye = k0_pay2 (mixed x0 x1 x2 x3 x4 x5 x6 x7 x8 x9) from if_pos (by omega),
      show oddNext t.val (mixed x0 x1 x2 x3 x4 x5 x6 x7 x8 x9) yo = k0_pay1 from if_pos h0]
    exact runA c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 (i1.mpr h0) (i2.mpr (by omega)) (fun h => by have := i3.mp h; omega)
      (fun h => by have := i4.mp h; omega) i5 x0 x1 x2 x3 x4 x5 x6 x7 x8 x9 x10 x11 Y ye yo E K
  by_cases h3 : t.val % 2 = 1
  · rw [show outNext t.val x10 x11 ye yo = k0_pay5 ye x10 x11 by unfold outNext; rw [if_pos h3]; rfl,
      show evenNext t.val (mixed x0 x1 x2 x3 x4 x5 x6 x7 x8 x9) ye = ye from if_neg (by omega),
      show oddNext t.val (mixed x0 x1 x2 x3 x4 x5 x6 x7 x8 x9) yo = k0_pay4 (mixed x0 x1 x2 x3 x4 x5 x6 x7 x8 x9) by unfold oddNext; rw [if_neg h0, if_pos h3]]
    exact runC c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => h0 (i1.mp h)) (fun h => by have := i2.mp h; omega) (i3.mpr h3)
      (fun h => by have := i4.mp h; omega) i5 x0 x1 x2 x3 x4 x5 x6 x7 x8 x9 x10 x11 Y ye yo E K
  by_cases h4 : t.val = 128
  · rw [show outNext t.val x10 x11 ye yo = k0_pay6 yo x10 x11 by unfold outNext; rw [if_neg h3, if_neg h0]; rfl,
      show evenNext t.val (mixed x0 x1 x2 x3 x4 x5 x6 x7 x8 x9) ye = ye from if_neg (by omega),
      show oddNext t.val (mixed x0 x1 x2 x3 x4 x5 x6 x7 x8 x9) yo = yo by unfold oddNext; rw [if_neg h0, if_neg h3]]
    exact runD c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => h0 (i1.mp h)) (fun h => by have := i2.mp h; omega) (fun h => h3 (i3.mp h))
      (i4.mpr h4) i5 x0 x1 x2 x3 x4 x5 x6 x7 x8 x9 x10 x11 Y ye yo E K
  · rw [show outNext t.val x10 x11 ye yo = k0_pay3 yo x10 x11 by unfold outNext; rw [if_neg h3, if_neg h0],
      show evenNext t.val (mixed x0 x1 x2 x3 x4 x5 x6 x7 x8 x9) ye = k0_pay2 (mixed x0 x1 x2 x3 x4 x5 x6 x7 x8 x9) from if_pos (by omega),
      show oddNext t.val (mixed x0 x1 x2 x3 x4 x5 x6 x7 x8 x9) yo = yo by unfold oddNext; rw [if_neg h0, if_neg h3]]
    exact runB c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 (fun h => h0 (i1.mp h)) (i2.mpr (by omega)) (fun h => h3 (i3.mp h))
      (fun h => h4 (i4.mp h)) i5 x0 x1 x2 x3 x4 x5 x6 x7 x8 x9 x10 x11 Y ye yo E K

/-! ## The run over the grid -/

variable (m : (ℓ : Loc nD τ sig) → Buf (Elt F) ℓ) (ρ : Dev nD → PrngReg)

/-- The tile that a point makes. -/
abbrev tileAt (c : Dev nD) (t : Fin cfg0.N) : Vec F S256x2048 .f32 :=
  mixed (iblk m c 0 t) (iblk m c 1 t) (iblk m c 2 t) (iblk m c 3 t) (iblk m c 4 t) (iblk m c 5 t) (iblk m c 6 t) (iblk m c 7 t) (iblk m c 8 t) (iblk m c 9 t)

/-- A property of the scratch before each point and of the result's buffer at each point's end, which every point keeps. -/
structure Track where
  Inv : Dev nD → ℕ → Vec F S256x2048 .f32 → Vec F S256x2048 .f32 → Prop
  Out : Dev nD → Fin cfg0.N → Vec F S256x2048 .f32 → Prop
  start : ∀ c ye yo, Inv c 0 ye yo
  step : ∀ c (t : Fin cfg0.N) ye yo, Inv c t.val ye yo →
    Inv c (t.val + 1) (evenNext t.val (tileAt m c t) ye) (oddNext t.val (tileAt m c t) yo)
      ∧ Out c t (outNext t.val (iblk m c 10 t) (iblk m c 11 t) ye yo)

/-- The windows held to a predicate: the result's. -/
def held : Fin 13 → Bool := fun w => decide (12 ≤ w.val)

variable {m} (T : Track m)

/-- The predicate, window by window. -/
def Track.out (c : Dev nD) : (w : Fin cfg0.W) → Fin cfg0.N → ((cfg0.win w).block.Idx → Elt F (cfg0.win w).elt) → Prop
  | ⟨12, _⟩ => T.Out c
  | _ => fun _ _ => True

abbrev sc0 : Memref sig .tc .vmem S256x2048 .f32 := Memref.whole cc0_scratch0
abbrev sc1 : Memref sig .tc .vmem S256x2048 .f32 := Memref.whole cc0_scratch1

/-- Before point `n`: the scratch at contents with the invariant, the generator register at some state. -/
def Track.Phi (c : Dev nD) (n : ℕ) : sProp 𝕄 :=
  iprop((∃ ye yo, ⌜T.Inv c n ye yo⌝ ∗ owns (c : Thread nD τ) sc0 fullShare ye ∗ owns (c : Thread nD τ) sc1 fullShare yo) ∗ (∃ r, prngReg c r))

/-- The proof data: each input's buffer at its block, the result's left unnamed. One array is staged by four windows: each holds
    its share of it. -/
def Track.dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ t := T.Phi c t.val
  q w := Pipeline.shareOf spec0 w
  owed _ := 0

/-- The same with the result's buffer held to the predicate. -/
abbrev Track.rdat (c : Dev nD) : Pipeline.RDat τ (Elt F) Unit ℕ (UR sig nD τ) ℕ cfg0 c := (T.dat c).toRRel held (T.out c)

theorem Track.A_eq (c : Dev nD) (w : Fin cfg0.W) : (T.dat c).A w = V m c (Pipeline.arrRef spec0 w) := by
  dsimp only [Track.dat]

theorem Track.before0 (c : Dev nD) (t : Fin cfg0.N) (d) : (T.dat c).before 0 t d = iblk m c 0 t :=
  before0_0_of m (T.dat c) (T.A_eq c 0) (fun t => by dsimp only [Track.dat]) t d
theorem Track.before1 (c : Dev nD) (t : Fin cfg0.N) (d) : (T.dat c).before 1 t d = iblk m c 1 t :=
  before0_1_of m (T.dat c) (T.A_eq c 1) (fun t => by dsimp only [Track.dat]) t d
theorem Track.before2 (c : Dev nD) (t : Fin cfg0.N) (d) : (T.dat c).before 2 t d = iblk m c 2 t :=
  before0_2_of m (T.dat c) (T.A_eq c 2) (fun t => by dsimp only [Track.dat]) t d
theorem Track.before3 (c : Dev nD) (t : Fin cfg0.N) (d) : (T.dat c).before 3 t d = iblk m c 3 t :=
  before0_3_of m (T.dat c) (T.A_eq c 3) (fun t => by dsimp only [Track.dat]) t d
theorem Track.before4 (c : Dev nD) (t : Fin cfg0.N) (d) : (T.dat c).before 4 t d = iblk m c 4 t :=
  before0_4_of m (T.dat c) (T.A_eq c 4) (fun t => by dsimp only [Track.dat]) t d
theorem Track.before5 (c : Dev nD) (t : Fin cfg0.N) (d) : (T.dat c).before 5 t d = iblk m c 5 t :=
  before0_5_of m (T.dat c) (T.A_eq c 5) (fun t => by dsimp only [Track.dat]) t d
theorem Track.before6 (c : Dev nD) (t : Fin cfg0.N) (d) : (T.dat c).before 6 t d = iblk m c 6 t :=
  before0_6_of m (T.dat c) (T.A_eq c 6) (fun t => by dsimp only [Track.dat]) t d
theorem Track.before7 (c : Dev nD) (t : Fin cfg0.N) (d) : (T.dat c).before 7 t d = iblk m c 7 t :=
  before0_7_of m (T.dat c) (T.A_eq c 7) (fun t => by dsimp only [Track.dat]) t d
theorem Track.before8 (c : Dev nD) (t : Fin cfg0.N) (d) : (T.dat c).before 8 t d = iblk m c 8 t :=
  before0_8_of m (T.dat c) (T.A_eq c 8) (fun t => by dsimp only [Track.dat]) t d
theorem Track.before9 (c : Dev nD) (t : Fin cfg0.N) (d) : (T.dat c).before 9 t d = iblk m c 9 t :=
  before0_9_of m (T.dat c) (T.A_eq c 9) (fun t => by dsimp only [Track.dat]) t d
theorem Track.before10 (c : Dev nD) (t : Fin cfg0.N) (d) : (T.dat c).before 10 t d = iblk m c 10 t :=
  before0_10_of m (T.dat c) (T.A_eq c 10) (fun t => by dsimp only [Track.dat]) t d
theorem Track.before11 (c : Dev nD) (t : Fin cfg0.N) (d) : (T.dat c).before 11 t d = iblk m c 11 t :=
  before0_11_of m (T.dat c) (T.A_eq c 11) (fun t => by dsimp only [Track.dat]) t d

abbrev ms (w : Fin cfg0.W) (t : Fin cfg0.N) := (cfg0.win w).stage (cfg0.slots t w)

/-- What the point's body is given, window by window. -/
def Track.pre (c : Dev nD) (t : Fin cfg0.N) : sProp 𝕄 :=
  iprop((T.dat c).Φ t.castSucc ∗ (T.dat c).owesAt () t.castSucc
    ∗ (∃ d, owns (c : Thread nD τ) (ms 0 t) fullShare ((T.dat c).before 0 t d))
    ∗ (∃ d, owns (c : Thread nD τ) (ms 1 t) fullShare ((T.dat c).before 1 t d))
    ∗ (∃ d, owns (c : Thread nD τ) (ms 2 t) fullShare ((T.dat c).before 2 t d))
    ∗ (∃ d, owns (c : Thread nD τ) (ms 3 t) fullShare ((T.dat c).before 3 t d))
    ∗ (∃ d, owns (c : Thread nD τ) (ms 4 t) fullShare ((T.dat c).before 4 t d))
    ∗ (∃ d, owns (c : Thread nD τ) (ms 5 t) fullShare ((T.dat c).before 5 t d))
    ∗ (∃ d, owns (c : Thread nD τ) (ms 6 t) fullShare ((T.dat c).before 6 t d))
    ∗ (∃ d, owns (c : Thread nD τ) (ms 7 t) fullShare ((T.dat c).before 7 t d))
    ∗ (∃ d, owns (c : Thread nD τ) (ms 8 t) fullShare ((T.dat c).before 8 t d))
    ∗ (∃ d, owns (c : Thread nD τ) (ms 9 t) fullShare ((T.dat c).before 9 t d))
    ∗ (∃ d, owns (c : Thread nD τ) (ms 10 t) fullShare ((T.dat c).before 10 t d))
    ∗ (∃ d, owns (c : Thread nD τ) (ms 11 t) fullShare ((T.dat c).before 11 t d))
    ∗ (∃ Y, ⌜(T.rdat c).Finds 12 t Y⌝ ∗ owns (c : Thread nD τ) (ms 12 t) fullShare Y))

/-- What it gives back. -/
def Track.post (c : Dev nD) (t : Fin cfg0.N) : sProp 𝕄 :=
  iprop((T.dat c).Φ t.succ ∗ (T.dat c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ owns (c : Thread nD τ) (ms 3 t) fullShare (iblk m c 3 t)
    ∗ owns (c : Thread nD τ) (ms 4 t) fullShare (iblk m c 4 t)
    ∗ owns (c : Thread nD τ) (ms 5 t) fullShare (iblk m c 5 t)
    ∗ owns (c : Thread nD τ) (ms 6 t) fullShare (iblk m c 6 t)
    ∗ owns (c : Thread nD τ) (ms 7 t) fullShare (iblk m c 7 t)
    ∗ owns (c : Thread nD τ) (ms 8 t) fullShare (iblk m c 8 t)
    ∗ owns (c : Thread nD τ) (ms 9 t) fullShare (iblk m c 9 t)
    ∗ owns (c : Thread nD τ) (ms 10 t) fullShare (iblk m c 10 t)
    ∗ owns (c : Thread nD τ) (ms 11 t) fullShare (iblk m c 11 t)
    ∗ (∃ X, ⌜T.Out c t X⌝ ∗ owns (c : Thread nD τ) (ms 12 t) fullShare X))

set_option maxHeartbeats 4000000 in
theorem Track.body (c : Dev nD) (t : Fin cfg0.N) :
    T.pre c t ⊢ wp frame (wpE (defs₀ (F := F)) Variants.none c none) Set.univ (bodyAt0 t) (fun _ => T.post c t) := by
  unfold Track.pre Track.post bodyAt0
  simp only [T.before0, T.before1, T.before2, T.before3, T.before4, T.before5, T.before6, T.before7, T.before8, T.before9, T.before10, T.before11]
  rw [show (T.dat c).owesAt () t.succ = (T.dat c).owesAt () t.castSucc from rfl,
    show (T.dat c).Φ t.castSucc = T.Phi c t.val from rfl, show (T.dat c).Φ t.succ = T.Phi c (t.val + 1) from rfl]
  unfold Track.Phi
  iintro ⟨⟨⟨%ye, %yo, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩⟩
  have hstep := T.step c t ye yo hI
  iapply (run_point c t _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y ye yo Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · iexists _, _
      isplitr; · ipureintro; exact hstep.1
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _
  isplitr; · ipureintro; exact hstep.2
  iexact H12

theorem body_row (t : Fin cfg0.N) :
    defs₀ (F := F) .tc cfg0.body (cfg0.bodyArgs t (cfg0.slots t)) = bodyAt0 t := by
  unfold defs₀; rw [Defs.onTc_tc]

theorem Track.obligation (c : Dev nD) :
    Pipeline.BodyObligationRel (T.dat c) (defs₀ (F := F)) Variants.none () Set.univ held (T.out c) := fun t => by
  rw [bigSep_W0, bigSep_W0, body_row]
  exact triple_restated (T.body c t) rfl .rfl fun _ => .rfl

theorem scratch_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

theorem Track.enter (c : Dev nD) : Pipeline.ΦA spec0 c ⊢ (T.rdat c).Φ 0 := by
  rw [show (T.rdat c).Φ 0 = T.Phi c 0 from rfl, scratch_eq]
  unfold Track.Phi
  iintro ⟨⟨⟨%ye, HS0⟩, ⟨%yo, HS1⟩⟩, Hg⟩
  isplitl [HS0 HS1]
  · iexists ye, yo
    isplitr; · ipureintro; exact T.start c ye yo
    isplitl [HS0]; · iexact HS0
    iexact HS1
  iexact Hg

theorem Track.leave (c : Dev nD) : (T.rdat c).Φ (Fin.last cfg0.N) ⊢ Pipeline.ΦA spec0 c := by
  rw [show (T.rdat c).Φ (Fin.last cfg0.N) = T.Phi c cfg0.N from rfl, scratch_eq]
  unfold Track.Phi
  iintro ⟨⟨%ye, %yo, -, HS0, HS1⟩, Hg⟩
  isplitl [HS0 HS1]
  · isplitl [HS0]; · iexists _; iexact HS0
    iexists _; iexact HS1
  iexact Hg

/-- What holds when the program has ended: the staged arrays as the proof data has them, every other buffer as the region
    found it. -/
abbrev Track.End : PUnit × MemSt nD τ sig (Elt F) → Prop := Pipeline.RDat.FramePost (cfgs 0) T.rdat (V m)

set_option backward.isDefEq.respectTransparency.types false in
/-- The whole run. -/
theorem Track.run : θ_run defs (onTc (τ := τ) (main (F := F))) (s₀ m ρ) (fun r => T.End r ∧ r.2.sem = fun _ => 0) :=
  Pipeline.RDat.θ_run_frame_track_shared (Q' := _) cfgs (0 : Fin 1) launch₀0 defs₀ Variants.none T.rdat m ρ main
    (hbody := fun c => (T.obligation c).toRRel) (hq := fun _ _ _ => rfl)
    (howed := fun _ _ => rfl) (V := V m) (hmain := hmain m Variants.none) (hA := T.A_eq) (hin := T.enter) (hout := T.leave)
    (hQ' := fun _ h => h)

include T in
/-- The arguments end unchanged. -/
theorem Track.frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(Pipeline.RDat.FramePost.arr_in h.1 c 0 rfl).trans ((T.A_eq c 0).trans (V_main_arg0 m c)),
     (Pipeline.RDat.FramePost.arr_in h.1 c 1 rfl).trans ((T.A_eq c 1).trans (V_main_arg1 m c)),
     (Pipeline.RDat.FramePost.arr_in h.1 c 5 rfl).trans ((T.A_eq c 5).trans (V_main_arg2 m c)),
     (Pipeline.RDat.FramePost.arr_in h.1 c 6 rfl).trans ((T.A_eq c 6).trans (V_main_arg3 m c)),
     (h.1 c).2 main_arg4 (Pipeline.mem_restRefs_of main_arg4 (by decide) (by decide)) |>.trans (V_main_arg4 m c),
     (h.1 c).2 main_arg5 (Pipeline.mem_restRefs_of main_arg5 (by decide) (by decide)) |>.trans (V_main_arg5 m c),
     (h.1 c).2 main_arg6 (Pipeline.mem_restRefs_of main_arg6 (by decide) (by decide)) |>.trans (V_main_arg6 m c),
     (h.1 c).2 main_arg7 (Pipeline.mem_restRefs_of main_arg7 (by decide) (by decide)) |>.trans (V_main_arg7 m c),
     (h.1 c).2 main_arg8 (Pipeline.mem_restRefs_of main_arg8 (by decide) (by decide)) |>.trans (V_main_arg8 m c)⟩, h.2⟩)
    (T.run ρ)

/-- Nothing tracked. -/
def Track.any : Track m := ⟨fun _ _ _ _ => True, fun _ _ _ => True, fun _ _ _ => trivial, fun _ _ _ _ _ => ⟨trivial, trivial⟩⟩

end Cert.Kernel3Ideal.Merge

end
-- ==== Proof.Merge.Value.lean ====
/- The value of the merge of the two branches (`Kernel3Ideal`) at the extended reals: the tile that each point leaves is the
   reference's sum before its layer norm, and the array of the normalised tiles is the reference's result. -/
module

public import proofs.«01_k».proof.Proof.Merge.Track
public import proofs.«01_k».proof.Proof.Gen.Reference3Ideal
public import Idealize.ShloMosaic.Lib.Pipeline.ValueKit
public import Idealize.ShloMosaic.Lib.Pipeline.ArrRel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

/-! ## A row's layer norm -/

/-- The mean of a row. -/
def mean (h : Fin 2048 → EReal) : EReal := Ideal.div (∑ x, h x) (Ideal.ofBits FTy.f32 1157627904#32)

/-- The layer norm of a row `h` at column `j`, with gain `g` and offset `b`. -/
def lnRow (h : Fin 2048 → EReal) (g b : EReal) (j : Fin 2048) : EReal :=
  (h j - mean h) * Ideal.rsqrt (mean (fun x => (h x - mean h) * (h x - mean h)) + Ideal.ofBits FTy.f32 925353388#32) * g + b

/-- A cell of the merged branches: each branch's cell under the sigmoid of its gate. -/
def gated (a u b v : EReal) : EReal := Ideal.div 1 (1 + Ideal.exp (0 - a)) * u + Ideal.div 1 (1 + Ideal.exp (0 - b)) * v

/-- The factor of the skip connection. -/
abbrev alpha : EReal := Ideal.ofBits FTy.f32 0x3F9837F0#32

theorem pay3_at (rows : Vec Ideal S256x2048 .f32) (g b : Vec Ideal S1x2048 .f32) (y0 : Fin 256) (y1 : Fin 2048) :
    k0_pay3 rows g b (ix2 y0 y1) = lnRow (fun d => rows (ix2 y0 d)) (g (ix2 0 y1)) (b (ix2 0 y1)) y1 := by
  pointwise [k0_pay3]
  rfl

/-! ## The reference -/

section Ref
open Cert.Reference3Ideal

/-- The number one in every cell. -/
abbrev ones : FVec Ideal Cert.Reference3Ideal.S32768x2048 .f32 :=
  broadcastInDim Cert.Reference3Ideal.S32768x2048 ![] Cert.Reference3Ideal.Gen.bcast_S_S32768x2048 (constant Cert.Reference3Ideal.S_ .f32 0x3F800000#32)

/-- A branch projected up to the model's width. -/
abbrev up (y : FVec Ideal Cert.Reference3Ideal.S32768x1024 .bf16) (w : FVec Ideal Cert.Reference3Ideal.S1024x2048 .f32) : FVec Ideal Cert.Reference3Ideal.S32768x2048 .f32 :=
  Host.dotGeneral Cert.Reference3Ideal.dot_S32768x1024_S1024x2048_S32768x2048_1_0_0_1_n_n none (extf .f32 y Cert.Reference3Ideal.Gen.bitsLt_bf16_f32) w

/-- The sigmoid of every cell. -/
abbrev sigm (a : FVec Ideal Cert.Reference3Ideal.S32768x2048 .f32) : FVec Ideal Cert.Reference3Ideal.S32768x2048 .f32 :=
  Host.divf ones (addf ones (Host.exp (Host.negf a)))

/-- `α x + (σ(ga) · (ym @ wum) + σ(gb) · (ysb @ wus)) @ wo`: what the reference normalises. -/
abbrev MIX (ym ysb : FVec Ideal Cert.Reference3Ideal.S32768x1024 .bf16) (p : FVec Ideal Cert.Reference3Ideal.S32768x7168 .bf16) (x : FVec Ideal Cert.Reference3Ideal.S32768x2048 .f32)
    (wum wus : FVec Ideal Cert.Reference3Ideal.S1024x2048 .f32) (wo : FVec Ideal Cert.Reference3Ideal.S2048x2048 .f32) : FVec Ideal Cert.Reference3Ideal.S32768x2048 .f32 :=
  addf (mulf (broadcastInDim Cert.Reference3Ideal.S32768x2048 ![] Cert.Reference3Ideal.Gen.bcast_S_S32768x2048 (constant Cert.Reference3Ideal.S_ .f32 0x3F9837F0#32)) x)
    (Host.dotGeneral Cert.Reference3Ideal.dot_S32768x2048_S2048x2048_S32768x2048_1_0_0_1_n_n none
      (addf
        (mulf (sigm (extractStridedSlice Cert.Reference3Ideal.S32768x2048 ![0, 3072] (extf .f32 p Cert.Reference3Ideal.Gen.bitsLt_bf16_f32)
          Cert.Reference3Ideal.Gen.slices_S32768x7168_S32768x2048_0_3072)) (up ym wum))
        (mulf (sigm (extractStridedSlice Cert.Reference3Ideal.S32768x2048 ![0, 5120] (extf .f32 p Cert.Reference3Ideal.Gen.bitsLt_bf16_f32)
          Cert.Reference3Ideal.Gen.slices_S32768x7168_S32768x2048_0_5120)) (up ysb wus))) wo)

/-- The number `2048` in every cell of a column. -/
abbrev width : FVec Ideal Cert.Reference3Ideal.S32768x1 .f32 :=
  broadcastInDim Cert.Reference3Ideal.S32768x1 ![] Cert.Reference3Ideal.Gen.bcast_S_S32768x1
    (constant Cert.Reference3Ideal.S_ .f32 0x45000000#32)

/-- Every row's mean, as a column. -/
abbrev MEAN (u : FVec Ideal Cert.Reference3Ideal.S32768x2048 .f32) : FVec Ideal Cert.Reference3Ideal.S32768x1 .f32 :=
  Host.divf (broadcastInDim Cert.Reference3Ideal.S32768x1 ![0] Cert.Reference3Ideal.Gen.bcast_S32768_S32768x1_0
    (Host.reduceAdd u (constant Cert.Reference3Ideal.S_ .f32 0x00000000#32)
      Cert.Reference3Ideal.Gen.reducesTo_S32768x2048_S32768_d1 Cert.Reference3Ideal.Gen.h_S_)) width

/-- A column repeated along the rows. -/
abbrev wide (v : FVec Ideal Cert.Reference3Ideal.S32768x1 .f32) : FVec Ideal Cert.Reference3Ideal.S32768x2048 .f32 :=
  broadcastInDim Cert.Reference3Ideal.S32768x2048 ![0, 1] Cert.Reference3Ideal.Gen.bcast_S32768x1_S32768x2048_0_1 v

/-- A row repeated down the columns. -/
abbrev tall (v : FVec Ideal Cert.Reference3Ideal.S2048 .f32) : FVec Ideal Cert.Reference3Ideal.S32768x2048 .f32 :=
  broadcastInDim Cert.Reference3Ideal.S32768x2048 ![0, 1] Cert.Reference3Ideal.Gen.bcast_S1x2048_S32768x2048_0_1
    (broadcastInDim Cert.Reference3Ideal.S1x2048 ![1] Cert.Reference3Ideal.Gen.bcast_S2048_S1x2048_1 v)

/-- The layer norm of every row. -/
abbrev LN (u : FVec Ideal Cert.Reference3Ideal.S32768x2048 .f32) (g b : FVec Ideal Cert.Reference3Ideal.S2048 .f32) :
    FVec Ideal Cert.Reference3Ideal.S32768x2048 .f32 :=
  addf (mulf (mulf (subf u (wide (MEAN u)))
      (wide (Host.rsqrt (addf (MEAN (mulf (subf u (wide (MEAN u))) (subf u (wide (MEAN u)))))
        (broadcastInDim Cert.Reference3Ideal.S32768x1 ![] Cert.Reference3Ideal.Gen.bcast_S_S32768x1
          (constant Cert.Reference3Ideal.S_ .f32 0x3727C5AC#32)))))) (tall g)) (tall b)

/-- The reference's result over its arguments. -/
abbrev REF (ym ysb : FVec Ideal Cert.Reference3Ideal.S32768x1024 .bf16) (p : FVec Ideal Cert.Reference3Ideal.S32768x7168 .bf16) (x : FVec Ideal Cert.Reference3Ideal.S32768x2048 .f32)
    (wum wus : FVec Ideal Cert.Reference3Ideal.S1024x2048 .f32) (wo : FVec Ideal Cert.Reference3Ideal.S2048x2048 .f32) (g b : FVec Ideal Cert.Reference3Ideal.S2048 .f32) :
    FVec Ideal Cert.Reference3Ideal.S32768x2048 .f32 := LN (MIX ym ysb p x wum wus wo) g b

theorem LN_at (u : FVec Ideal Cert.Reference3Ideal.S32768x2048 .f32) (g b : FVec Ideal Cert.Reference3Ideal.S2048 .f32) (r : Fin 32768) (j : Fin 2048) :
    LN u g b (ix2 r j) = lnRow (fun d => u (ix2 r d)) (g (ix1 j)) (b (ix1 j)) j := by
  pointwise [LN]
  rfl

/-- One summand of the output projection. -/
def summand (ym ysb : FVec Ideal Cert.Reference3Ideal.S32768x1024 .bf16) (p : FVec Ideal Cert.Reference3Ideal.S32768x7168 .bf16)
    (wum wus : FVec Ideal Cert.Reference3Ideal.S1024x2048 .f32) (wo : FVec Ideal Cert.Reference3Ideal.S2048x2048 .f32) (r : Fin 32768) (j q : Fin 2048) : EReal :=
  gated (p (ix2 r ⟨3072 + q.val, by omega⟩)) (∑ d, ym (ix2 r d) * wum (ix2 d q))
    (p (ix2 r ⟨5120 + q.val, by omega⟩)) (∑ d, ysb (ix2 r d) * wus (ix2 d q)) * wo (ix2 q j)

theorem MIX_at (ym ysb : FVec Ideal Cert.Reference3Ideal.S32768x1024 .bf16) (p : FVec Ideal Cert.Reference3Ideal.S32768x7168 .bf16) (x : FVec Ideal Cert.Reference3Ideal.S32768x2048 .f32)
    (wum wus : FVec Ideal Cert.Reference3Ideal.S1024x2048 .f32) (wo : FVec Ideal Cert.Reference3Ideal.S2048x2048 .f32) (r : Fin 32768) (j : Fin 2048) :
    MIX ym ysb p x wum wus wo (ix2 r j) = alpha * x (ix2 r j) + ∑ q : Fin 2048, summand ym ysb p wum wus wo r j q := by
  pointwise [MIX]
  simp only [summand, gated, zero_sub]

end Ref

/-! ## A tile -/

theorem colsA_at (w : Vec Ideal S1024x2048 .bf16) (d q : Fin 1024) : colsA w (ix2 d q) = w (ix2 d ⟨q.val, by omega⟩) :=
  congrArg w (funext fun a => match a with
    | 0 => Fin.ext (by show 0 + 1 * d.val = d.val; omega)
    | 1 => Fin.ext (by show 0 + 1 * q.val = q.val; omega))

theorem colsB_at (w : Vec Ideal S1024x2048 .bf16) (d q : Fin 1024) : colsB w (ix2 d q) = w (ix2 d ⟨1024 + q.val, by omega⟩) :=
  congrArg w (funext fun a => match a with
    | 0 => Fin.ext (by show 0 + 1 * d.val = d.val; omega)
    | 1 => Fin.ext (by show 1024 + 1 * q.val = 1024 + q.val; omega))

theorem rowsA_at (w : Vec Ideal S2048x2048 .bf16) (q : Fin 1024) (j : Fin 2048) : rowsA w (ix2 q j) = w (ix2 ⟨q.val, by omega⟩ j) :=
  congrArg w (funext fun a => match a with
    | 0 => Fin.ext (by show 0 + 1 * q.val = q.val; omega)
    | 1 => Fin.ext (by show 0 + 1 * j.val = j.val; omega))

theorem rowsB_at (w : Vec Ideal S2048x2048 .bf16) (q : Fin 1024) (j : Fin 2048) : rowsB w (ix2 q j) = w (ix2 ⟨1024 + q.val, by omega⟩ j) :=
  congrArg w (funext fun a => match a with
    | 0 => Fin.ext (by show 1024 + 1 * q.val = 1024 + q.val; omega)
    | 1 => Fin.ext (by show 0 + 1 * j.val = j.val; omega))

/-- Half of the output projection, over one half of the merged columns. -/
def part (y s : Vec Ideal S256x1024 .bf16) (wm ws : Vec Ideal S1024x1024 .bf16) (a b : Vec Ideal S256x1024 .bf16)
    (wo : Vec Ideal S1024x2048 .bf16) (y0 : Fin 256) (y1 : Fin 2048) : EReal :=
  ∑ q : Fin 1024, gated (a (ix2 y0 q)) (∑ d, y (ix2 y0 d) * wm (ix2 d q)) (b (ix2 y0 q)) (∑ d, s (ix2 y0 d) * ws (ix2 d q)) * wo (ix2 q y1)

theorem pay8_at (y s : Vec Ideal S256x1024 .bf16) (wm ws : Vec Ideal S1024x1024 .bf16) (a b : Vec Ideal S256x1024 .bf16)
    (wo : Vec Ideal S1024x2048 .bf16) (y0 : Fin 256) (y1 : Fin 2048) :
    k0_pay8 y wm s ws a b wo (ix2 y0 y1) = part y s wm ws a b wo y0 y1 := by
  pointwise [k0_pay8]
  simp only [part, gated, zero_sub]

theorem pay9_at (z : FVec Ideal S256x2048 .f32) (y s : Vec Ideal S256x1024 .bf16) (wm ws : Vec Ideal S1024x1024 .bf16)
    (a b : Vec Ideal S256x1024 .bf16) (wo : Vec Ideal S1024x2048 .bf16) (x : Vec Ideal S256x2048 .f32) (y0 : Fin 256) (y1 : Fin 2048) :
    k0_pay9 z y wm s ws a b wo x (ix2 y0 y1) = alpha * x (ix2 y0 y1) + (z (ix2 y0 y1) + part y s wm ws a b wo y0 y1) := by
  pointwise [k0_pay9]
  simp only [part, gated, zero_sub]

variable (m : (ℓ : Loc nD τ sig) → Buf (Elt Ideal) ℓ)

/-- The grid's point number `n`. -/
def pt (n : ℕ) : Fin cfg0.N := ⟨n % 129, Nat.mod_lt _ (by decide)⟩

theorem pt_eq (t : Fin cfg0.N) (n : ℕ) (h : t.val = n) : t = pt n :=
  Fin.ext (by have := t.isLt; have e : cfg0.N = 129 := by decide
              show t.val = n % 129; omega)

/-- Which block each window reads or writes at a grid point. -/
theorem blocks : ∀ t : Fin cfg0.N, win0_0.index t = ![min t.val 127, 0] ∧ win0_1.index t = ![min t.val 127, 0]
    ∧ win0_2.index t = ![min t.val 127, 3] ∧ win0_3.index t = ![min t.val 127, 4] ∧ win0_4.index t = ![min t.val 127, 5]
    ∧ win0_5.index t = ![min t.val 127, 6] ∧ win0_6.index t = ![min t.val 127, 0] ∧ win0_7.index t = ![0, 0]
    ∧ win0_8.index t = ![0, 0] ∧ win0_9.index t = ![0, 0] ∧ win0_10.index t = ![0, 0] ∧ win0_11.index t = ![0, 0]
    ∧ win0_12.index t = ![t.val - 1, 0] :=
  (by decide +kernel : ∀ t : Fin grid0.N, _)

/-- When the result's block is written back. -/
theorem flushes : ∀ t : Fin cfg0.N, (cfg0.win 12).flush t = true → 1 ≤ t.val :=
  (by decide +kernel : ∀ t : Fin grid0.N, (cfg0.win 12).flush t = true → 1 ≤ t.val)

theorem gain_at (c : Dev nD) (t : Fin cfg0.N) (j : Fin 2048) :
    iblk m c 10 t (ix2 0 j) = m ((c : Thread nD τ).loc main_arg7) (ix1 j) := by
  blk_point [iblk, V, blocks t]

theorem offset_at (c : Dev nD) (t : Fin cfg0.N) (j : Fin 2048) :
    iblk m c 11 t (ix2 0 j) = m ((c : Thread nD τ).loc main_arg8) (ix1 j) := by
  blk_point [iblk, V, blocks t]

/-- Row `y0` of tile `n`, as a row of the array. -/
abbrev rowIx (n : ℕ) (hn : n < 128) (y0 : Fin 256) : Fin 32768 := ⟨256 * n + y0.val, by have := y0.isLt; omega⟩

theorem ym_at (c : Dev nD) (n : ℕ) (hn : n < 128) (y0 : Fin 256) (y1 : Fin 1024) :
    iblk m c 0 (pt n) (ix2 y0 y1) = m ((c : Thread nD τ).loc main_arg0) (ix2 (rowIx n hn y0) y1) := by
  have e : (pt n).val = n := Nat.mod_eq_of_lt (by omega)
  blk_point [iblk, V, blocks (pt n)]

theorem ysb_at (c : Dev nD) (n : ℕ) (hn : n < 128) (y0 : Fin 256) (y1 : Fin 1024) :
    iblk m c 1 (pt n) (ix2 y0 y1) = m ((c : Thread nD τ).loc main_arg1) (ix2 (rowIx n hn y0) y1) := by
  have e : (pt n).val = n := Nat.mod_eq_of_lt (by omega)
  blk_point [iblk, V, blocks (pt n)]

theorem gaA_at (c : Dev nD) (n : ℕ) (hn : n < 128) (y0 : Fin 256) (y1 : Fin 1024) :
    iblk m c 2 (pt n) (ix2 y0 y1) = m ((c : Thread nD τ).loc main_arg2) (ix2 (rowIx n hn y0) ⟨3072 + y1.val, by omega⟩) := by
  have e : (pt n).val = n := Nat.mod_eq_of_lt (by omega)
  blk_point [iblk, V, blocks (pt n)]

theorem gaB_at (c : Dev nD) (n : ℕ) (hn : n < 128) (y0 : Fin 256) (y1 : Fin 1024) :
    iblk m c 3 (pt n) (ix2 y0 y1) = m ((c : Thread nD τ).loc main_arg2) (ix2 (rowIx n hn y0) ⟨4096 + y1.val, by omega⟩) := by
  have e : (pt n).val = n := Nat.mod_eq_of_lt (by omega)
  blk_point [iblk, V, blocks (pt n)]

theorem gbA_at (c : Dev nD) (n : ℕ) (hn : n < 128) (y0 : Fin 256) (y1 : Fin 1024) :
    iblk m c 4 (pt n) (ix2 y0 y1) = m ((c : Thread nD τ).loc main_arg2) (ix2 (rowIx n hn y0) ⟨5120 + y1.val, by omega⟩) := by
  have e : (pt n).val = n := Nat.mod_eq_of_lt (by omega)
  blk_point [iblk, V, blocks (pt n)]

theorem gbB_at (c : Dev nD) (n : ℕ) (hn : n < 128) (y0 : Fin 256) (y1 : Fin 1024) :
    iblk m c 5 (pt n) (ix2 y0 y1) = m ((c : Thread nD τ).loc main_arg2) (ix2 (rowIx n hn y0) ⟨6144 + y1.val, by omega⟩) := by
  have e : (pt n).val = n := Nat.mod_eq_of_lt (by omega)
  blk_point [iblk, V, blocks (pt n)]

theorem x_at (c : Dev nD) (n : ℕ) (hn : n < 128) (y0 : Fin 256) (y1 : Fin 2048) :
    iblk m c 6 (pt n) (ix2 y0 y1) = m ((c : Thread nD τ).loc main_arg3) (ix2 (rowIx n hn y0) y1) := by
  have e : (pt n).val = n := Nat.mod_eq_of_lt (by omega)
  blk_point [iblk, V, blocks (pt n)]

theorem wum_at (c : Dev nD) (t : Fin cfg0.N) (d : Fin 1024) (q : Fin 2048) :
    iblk m c 7 t (ix2 d q) = m ((c : Thread nD τ).loc main_arg4) (ix2 d q) := by
  blk_point [iblk, V, blocks t]

theorem wus_at (c : Dev nD) (t : Fin cfg0.N) (d : Fin 1024) (q : Fin 2048) :
    iblk m c 8 t (ix2 d q) = m ((c : Thread nD τ).loc main_arg5) (ix2 d q) := by
  blk_point [iblk, V, blocks t]

theorem wo_at (c : Dev nD) (t : Fin cfg0.N) (d : Fin 2048) (q : Fin 2048) :
    iblk m c 9 t (ix2 d q) = m ((c : Thread nD τ).loc main_arg6) (ix2 d q) := by
  blk_point [iblk, V, blocks t]

/-- The reference's sum before its layer norm, over the kernel's arguments. -/
abbrev mix (c : Dev nD) : FVec Ideal Cert.Reference3Ideal.S32768x2048 .f32 :=
  MIX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- A tile is the reference's block of rows. -/
theorem tile_mix (c : Dev nD) (n : ℕ) (hn : n < 128) (y0 : Fin 256) (y1 : Fin 2048) :
    tileAt m c (pt n) (ix2 y0 y1) = mix m c (ix2 (rowIx n hn y0) y1) := by
  refine Eq.trans ?_ (MIX_at _ _ _ _ _ _ _ _ _).symm
  unfold tileAt mixed
  rw [pay9_at, pay8_at, x_at m c n hn]
  refine congrArg (alpha * m ((c : Thread nD τ).loc main_arg3) (ix2 (rowIx n hn y0) y1) + ·) ?_
  refine Eq.trans ?_ (Fin.sum_univ_add (a := 1024) (b := 1024) (fun q : Fin (1024 + 1024) =>
    summand (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (rowIx n hn y0) y1 q)).symm
  unfold part
  refine congrArg₂ (· + ·) (Finset.sum_congr rfl fun q _ => ?_) (Finset.sum_congr rfl fun q _ => ?_)
  · rw [rowsA_at, wo_at, gaA_at m c n hn, gbA_at m c n hn]
    simp only [colsA_at, wum_at, wus_at, ym_at m c n hn, ysb_at m c n hn]
    rfl
  · rw [rowsB_at, wo_at, gaB_at m c n hn, gbB_at m c n hn]
    simp only [colsB_at, wum_at, wus_at, ym_at m c n hn, ysb_at m c n hn]
    unfold summand
    refine congrArg₂ (· * ·) ?_ rfl
    refine congr (congr (congr (congrArg gated ?_) rfl) ?_) rfl
    · exact congrArg (m ((c : Thread nD τ).loc main_arg2)) (congrArg (ix2 (rowIx n hn y0))
        (Fin.ext (by show 4096 + q.val = 3072 + (1024 + q.val); omega)))
    · exact congrArg (m ((c : Thread nD τ).loc main_arg2)) (congrArg (ix2 (rowIx n hn y0))
        (Fin.ext (by show 6144 + q.val = 5120 + (1024 + q.val); omega)))

/-! ## The scratch and the result -/

theorem pay2_eq (x : FVec Ideal S256x2048 .f32) : k0_pay2 x = x := by
  funext y
  pointwise [k0_pay2]

theorem pay4_eq (x : FVec Ideal S256x2048 .f32) : k0_pay4 x = x := by
  funext y
  pointwise [k0_pay4]

/-- What the scratch holds before point `n`: the tile of the point before. -/
def Holds (c : Dev nD) (n : ℕ) (ye yo : Vec Ideal S256x2048 .f32) : Prop :=
  n ≠ 0 → n ≤ 128 → (if (n - 1) % 2 = 0 then ye else yo) = tileAt m c (pt (n - 1))

/-- What the result's buffer holds after point `t`: the rows of the tile before, normalised. -/
def Rows (c : Dev nD) (t : Fin cfg0.N) (X : Vec Ideal S256x2048 .f32) : Prop :=
  t.val ≠ 0 → X = k0_pay3 (tileAt m c (pt (t.val - 1))) (iblk m c 10 t) (iblk m c 11 t)

/-- The property of the scratch and of the result's buffer that the grid's points keep. -/
def track : Track m where
  Inv := Holds m
  Out := Rows m
  start := fun _ _ _ h => absurd rfl h
  step := fun c t ye yo h => by
    have hN : t.val < 129 := t.isLt
    refine ⟨fun _ hle => ?_, fun h0 => ?_⟩
    · rw [Nat.add_sub_cancel, ← pt_eq t t.val rfl]
      by_cases h2 : t.val % 2 = 0
      · rw [if_pos h2, evenNext, if_pos ⟨h2, by omega⟩, pay2_eq]
      · rw [if_neg h2, oddNext, if_neg (by omega), if_pos (by omega), pay4_eq]
    · rw [← h h0 (by omega)]
      unfold outNext
      by_cases h2 : t.val % 2 = 1
      · rw [if_pos h2, if_pos (by omega)]
      · rw [if_neg h2, if_neg h0, if_neg (by omega)]

/-- The reference's result over the kernel's arguments. -/
abbrev ref (c : Dev nD) : FVec Ideal Cert.Reference3Ideal.S32768x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem row_ref (c : Dev nD) (t : Fin cfg0.N) (n : ℕ) (hn : n < 128) (y0 : Fin 256) (y1 : Fin 2048) :
    k0_pay3 (tileAt m c (pt n)) (iblk m c 10 t) (iblk m c 11 t) (ix2 y0 y1) = ref m c (ix2 (rowIx n hn y0) y1) := by
  rw [pay3_at, gain_at, offset_at]
  refine Eq.trans ?_ (LN_at _ _ _ _ _).symm
  exact congrArg (fun h => lnRow h _ _ y1) (funext fun d => tile_mix m c n hn y0 d)

/-- A block as it is written back, at a cell. -/
theorem block_ref (c : Dev nD) (t : Fin cfg0.N) (hf : (cfg0.win 12).flush t = true) (X : Vec Ideal S256x2048 .f32) (h : Rows m c t X)
    (y : S256x2048.Idx) : X y = ref m c (((cfg0.win 12).blk t).view.emb y) := by
  have h1 := flushes t hf
  have hN : t.val < 129 := t.isLt
  have e : ((cfg0.win 12).blk t).view.emb y = ix2 (rowIx (t.val - 1) (by omega) (y 0)) (y 1) := by
    blk_ext! [blocks t]
  rw [e, h (by omega)]
  refine Eq.trans ?_ (row_ref m c t (t.val - 1) (by omega) (y 0) (y 1))
  exact congrArg _ (funext fun a => match a with | 0 => rfl | 1 => rfl)

/-- The result array after the run. -/
theorem result (r) (h : (track m).End r) (c : Dev nD) :
    r.2.mem ((c : Thread nD τ).loc main_v5) = ref m c := by
  obtain ⟨after, hl, harr⟩ := Pipeline.RDat.FramePost.exists_exact h c
  have hm := harr 12
  refine hm.trans ?_
  refine Dat.arrAt_eq_of_covers _ 12 _ (by decide +kernel) fun t hf y => ?_
  have hR : Rows m c t (after 12 t) := Dat.toRRel_leaves ((track m).dat c) (w := 12) rfl (hl 12 t hf)
  exact block_ref m c t hf _ hR y

/-- The whole run: the result is the reference's, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v5) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (θ_run_and ((track m).run ρ) ((track m).frame ρ)) fun r h c => ⟨result m r h.1.1 c, h.2.1 c⟩

end Cert.Kernel3Ideal.Merge

end
-- ==== Proof.Ple.Value.lean ====
/- The value of the per-layer embedding kernel (`Kernel4Ideal`) at the extended reals: the array that it leaves is the
   reference's composed term, read block by block. -/
module

public import proofs.«01_k».proof.Proof.Gen.Kernel4Ideal.Frame
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Ple

open Cert.Kernel4Ideal Cert.Kernel4Ideal.Gen

variable (m : (ℓ : Loc nD τ sig) → Buf (Elt Ideal) ℓ)

/-- The number one in every cell. -/
abbrev ones : FVec Ideal Cert.Reference4Ideal.S32768x2048 .f32 :=
  broadcastInDim Cert.Reference4Ideal.S32768x2048 ![] Cert.Reference4Ideal.Gen.bcast_S_S32768x2048
    (constant Cert.Reference4Ideal.S_ .f32 0x3F800000#32)

/-- The reference's result over its arguments: `x + sigmoid(x @ w_gate) * (p @ w_proj)`. -/
abbrev REF (x : FVec Ideal Cert.Reference4Ideal.S32768x2048 .f32) (p : FVec Ideal Cert.Reference4Ideal.S32768x256 .f32)
    (wg : FVec Ideal Cert.Reference4Ideal.S2048x2048 .f32) (wp : FVec Ideal Cert.Reference4Ideal.S256x2048 .f32) :
    FVec Ideal Cert.Reference4Ideal.S32768x2048 .f32 :=
  addf x (mulf
    (Host.divf ones (addf ones (Host.exp (Host.negf
      (Host.dotGeneral Cert.Reference4Ideal.dot_S32768x2048_S2048x2048_S32768x2048_1_0_0_1_n_n none x wg)))))
    (Host.dotGeneral Cert.Reference4Ideal.dot_S32768x256_S256x2048_S32768x2048_1_0_0_1_n_n none p wp))

/-- Which block each window reads or writes at a grid point. -/
theorem blocks : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

set_option maxHeartbeats 1600000 in
/-- What the body stores at a cell of its block is the reference at the cell of the array where it sits. -/
theorem cell (c : Dev nD) (t : Fin cfg0.N) (y) :
    k0_pay1 (iblk m c 0 t) (iblk m c 2 t) (iblk m c 1 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, REF]
  simp only [zero_sub]
  blk_point [iblk, V, blocks t]

/-- The result array after the run. -/
theorem result (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact cell m c t y

end Cert.Kernel4Ideal.Ple

end
-- ==== Proof.Proj.Track.lean ====
/- The run of the left part of the input projection over its whole grid (`Kernel5Ideal`): the mLSTM branch's columns, one
   block at each point, and the gates, made at the first point of each row block and kept until its last one. -/
module

public import proofs.«01_k».proof.Proof.Gen.Kernel5Ideal.Frame
public import proofs.«01_k».proof.Proof.Gen.Kernel5Ideal.Skeleton
public import Idealize.ShloMosaic.Lib.VecWindow
public import Idealize.ShloMosaic.Lib.Pipeline.DatRel

@[expose] public section

set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of everything from a whole memref held at the contents that read `X` reads `X`. -/
theorem whole_read {s : Shape} {e : EltTy} {r : Memref sig .tc .vmem s e} (h : r.IsWhole) (X : s.Idx → Elt F e)
    {off : Fin s.rank → ℕ} (inb : ∀ a, off a + s.size a ≤ s.size a) :
    View.readAt (Elt F) r.view (Rect.unit off s.size inb).toLoadRect (h.unread X) = X :=
  (View.readAt_full _ _ inb).trans (h.read_unread X)

set_option maxHeartbeats 1000000 in
/-- The first point of a row block: both results are stored. -/
theorem runA (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S2048x128 .bf16) (harg4 : arg4.IsWhole) (arg5 : Memref sig .tc .vmem S2048x1024 .bf16) (harg5 : arg5.IsWhole) (arg6 : Memref sig .tc .vmem S2048x128 .f32) (harg6 : arg6.IsWhole)
    (hc : k0_cond1 i = 1#1)
    (x : Vec F S2048x2048 .bf16) (w : Vec F S2048x1024 .bf16) (g : Vec F S2048x128 .bf16) (Y : Vec F S2048x1024 .bf16) (Z : Vec F S2048x128 .f32)
    (E : Set ℕ) (K : PUnit → sProp 𝕄) :
    iprop(owns (c : Thread nD τ) arg2 fullShare x ∗ owns (c : Thread nD τ) arg3 fullShare w ∗ owns (c : Thread nD τ) arg4 fullShare g ∗ owns (c : Thread nD τ) arg5 fullShare Y ∗ owns (c : Thread nD τ) arg6 fullShare Z
        ∗ (iprop(owns (c : Thread nD τ) arg2 fullShare x ∗ owns (c : Thread nD τ) arg3 fullShare w ∗ owns (c : Thread nD τ) arg4 fullShare g ∗ owns (c : Thread nD τ) arg5 fullShare (k0_pay2 x w) ∗ owns (c : Thread nD τ) arg6 fullShare (k0_pay1 x g)) -∗ K ⟨⟩))
      ⊢ wp frame (wpE (defs₀ (F := F)) Variants.none c none) E (cc0_in_proj i arg2 harg2 arg3 harg3 arg4 harg4 arg5 harg5 arg6 harg6) K := by
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full]; repeat rw [whole_read]
    iexists _; isplitr; swap; · iexact H4
    ipureintro
    rw [View.read_writes_full]; repeat rw [whole_read]

set_option maxHeartbeats 1000000 in
/-- A later point of a row block: the gates stay. -/
theorem runB (c : Dev nD) (i : grid0.Coords) (arg2 : Memref sig .tc .vmem S2048x2048 .bf16) (harg2 : arg2.IsWhole) (arg3 : Memref sig .tc .vmem S2048x1024 .bf16) (harg3 : arg3.IsWhole) (arg4 : Memref sig .tc .vmem S2048x128 .bf16) (harg4 : arg4.IsWhole) (arg5 : Memref sig .tc .vmem S2048x1024 .bf16) (harg5 : arg5.IsWhole) (arg6 : Memref sig .tc .vmem S2048x128 .f32) (harg6 : arg6.IsWhole)
    (hc : ¬k0_cond1 i = 1#1)
    (x : Vec F S2048x2048 .bf16) (w : Vec F S2048x1024 .bf16) (g : Vec F S2048x128 .bf16) (Y : Vec F S2048x1024 .bf16) (Z : Vec F S2048x128 .f32)
    (E : Set ℕ) (K : PUnit → sProp 𝕄) :
    iprop(owns (c : Thread nD τ) arg2 fullShare x ∗ owns (c : Thread nD τ) arg3 fullShare w ∗ owns (c : Thread nD τ) arg4 fullShare g ∗ owns (c : Thread nD τ) arg5 fullShare Y ∗ owns (c : Thread nD τ) arg6 fullShare Z
        ∗ (iprop(owns (c : Thread nD τ) arg2 fullShare x ∗ owns (c : Thread nD τ) arg3 fullShare w ∗ owns (c : Thread nD τ) arg4 fullShare g ∗ owns (c : Thread nD τ) arg5 fullShare (k0_pay2 x w) ∗ owns (c : Thread nD τ) arg6 fullShare Z) -∗ K ⟨⟩))
      ⊢ wp frame (wpE (defs₀ (F := F)) Variants.none c none) E (cc0_in_proj i arg2 harg2 arg3 harg3 arg4 harg4 arg5 harg5 arg6 harg6) K := by
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [View.read_writes_full]; repeat rw [whole_read]
    iexists _; isplitr; · ipureintro; exact harg6.read_unread _
    iexact H4

theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The gates' buffer after a point. -/
def gatesNext (t : ℕ) (x : Vec F S2048x2048 .bf16) (g : Vec F S2048x128 .bf16) (Z : Vec F S2048x128 .f32) : Vec F S2048x128 .f32 :=
  if t % 4 = 0 then k0_pay1 x g else Z

/-- The body at any point, its buffers held at given contents. -/
theorem run_point (c : Dev nD) (t : Fin cfg0.N) (arg2 : Memref sig .tc .vmem S2048x2048 .bf16) (harg2 : arg2.IsWhole) (arg3 : Memref sig .tc .vmem S2048x1024 .bf16) (harg3 : arg3.IsWhole) (arg4 : Memref sig .tc .vmem S2048x128 .bf16) (harg4 : arg4.IsWhole) (arg5 : Memref sig .tc .vmem S2048x1024 .bf16) (harg5 : arg5.IsWhole) (arg6 : Memref sig .tc .vmem S2048x128 .f32) (harg6 : arg6.IsWhole)
    (x : Vec F S2048x2048 .bf16) (w : Vec F S2048x1024 .bf16) (g : Vec F S2048x128 .bf16) (Y : Vec F S2048x1024 .bf16) (Z : Vec F S2048x128 .f32)
    (E : Set ℕ) (K : PUnit → sProp 𝕄) :
    iprop(owns (c : Thread nD τ) arg2 fullShare x ∗ owns (c : Thread nD τ) arg3 fullShare w ∗ owns (c : Thread nD τ) arg4 fullShare g ∗ owns (c : Thread nD τ) arg5 fullShare Y ∗ owns (c : Thread nD τ) arg6 fullShare Z
        ∗ (iprop(owns (c : Thread nD τ) arg2 fullShare x ∗ owns (c : Thread nD τ) arg3 fullShare w ∗ owns (c : Thread nD τ) arg4 fullShare g ∗ owns (c : Thread nD τ) arg5 fullShare (k0_pay2 x w) ∗ owns (c : Thread nD τ) arg6 fullShare (gatesNext t.val x g Z)) -∗ K ⟨⟩))
      ⊢ wp frame (wpE (defs₀ (F := F)) Variants.none c none) E (cc0_in_proj (grid0.coords t) arg2 harg2 arg3 harg3 arg4 harg4 arg5 harg5 arg6 harg6) K := by
  by_cases h : t.val % 4 = 0
  · rw [show gatesNext t.val x g Z = k0_pay1 x g from if_pos h]
    exact runA c (grid0.coords t) arg2 harg2 arg3 harg3 arg4 harg4 arg5 harg5 arg6 harg6 ((first_iff t).mpr h) x w g Y Z E K
  · rw [show gatesNext t.val x g Z = Z from if_neg h]
    exact runB c (grid0.coords t) arg2 harg2 arg3 harg3 arg4 harg4 arg5 harg5 arg6 harg6 (fun h' => h ((first_iff t).mp h')) x w g Y Z E K

/-! ## The run over the grid -/

variable (m : (ℓ : Loc nD τ sig) → Buf (Elt F) ℓ) (ρ : Dev nD → PrngReg)

/-- A property of the gates' buffer at each point's end which every point keeps: at a point the buffer holds anything if the
    point before wrote it back, and what the point before left otherwise. -/
structure Track where
  Out : Dev nD → Fin cfg0.N → Vec F S2048x1024 .bf16 → Prop
  OutB : Dev nD → Fin cfg0.N → Vec F S2048x128 .f32 → Prop
  step : ∀ c (t : Fin cfg0.N) Z,
    (t.val ≠ 0 → (cfg0.win 4).flush ⟨t.val - 1, Nat.lt_of_le_of_lt (Nat.sub_le _ _) t.isLt⟩ = true
      ∨ OutB c ⟨t.val - 1, Nat.lt_of_le_of_lt (Nat.sub_le _ _) t.isLt⟩ Z) →
    Out c t (k0_pay2 (iblk m c 0 t) (iblk m c 1 t)) ∧ OutB c t (gatesNext t.val (iblk m c 0 t) (iblk m c 2 t) Z)

/-- The windows held to a predicate: the two results'. -/
def held : Fin 5 → Bool := fun w => decide (3 ≤ w.val)

variable {m} (T : Track m)

/-- The predicate, window by window. -/
def Track.out (c : Dev nD) : (w : Fin cfg0.W) → Fin cfg0.N → ((cfg0.win w).block.Idx → Elt F (cfg0.win w).elt) → Prop
  | ⟨3, _⟩ => T.Out c
  | ⟨4, _⟩ => T.OutB c
  | _ => fun _ _ => True

/-- The proof data: each input's buffer at its block, the results' left unnamed. -/
def Track.dat (_ : Track m) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The same with the results' buffers held to the predicates. -/
abbrev Track.rdat (c : Dev nD) : Pipeline.RDat τ (Elt F) Unit ℕ (UR sig nD τ) ℕ cfg0 c := (T.dat c).toRRel held (T.out c)

theorem Track.A_eq (c : Dev nD) (w : Fin cfg0.W) : (T.dat c).A w = V m c (Pipeline.arrRef spec0 w) := by
  dsimp only [Track.dat]

theorem Track.before0 (c : Dev nD) (t : Fin cfg0.N) (d) : (T.dat c).before 0 t d = iblk m c 0 t :=
  before0_0_of m (T.dat c) (T.A_eq c 0) (fun t => by dsimp only [Track.dat]) t d
theorem Track.before1 (c : Dev nD) (t : Fin cfg0.N) (d) : (T.dat c).before 1 t d = iblk m c 1 t :=
  before0_1_of m (T.dat c) (T.A_eq c 1) (fun t => by dsimp only [Track.dat]) t d
theorem Track.before2 (c : Dev nD) (t : Fin cfg0.N) (d) : (T.dat c).before 2 t d = iblk m c 2 t :=
  before0_2_of m (T.dat c) (T.A_eq c 2) (fun t => by dsimp only [Track.dat]) t d

abbrev ms (w : Fin cfg0.W) (t : Fin cfg0.N) := (cfg0.win w).stage (cfg0.slots t w)

/-- What the point's body is given, window by window. -/
def Track.pre (c : Dev nD) (t : Fin cfg0.N) : sProp 𝕄 :=
  iprop((T.dat c).Φ t.castSucc ∗ (T.dat c).owesAt () t.castSucc
    ∗ (∃ d, owns (c : Thread nD τ) (ms 0 t) fullShare ((T.dat c).before 0 t d))
    ∗ (∃ d, owns (c : Thread nD τ) (ms 1 t) fullShare ((T.dat c).before 1 t d))
    ∗ (∃ d, owns (c : Thread nD τ) (ms 2 t) fullShare ((T.dat c).before 2 t d))
    ∗ (∃ Y, ⌜(T.rdat c).Finds 3 t Y⌝ ∗ owns (c : Thread nD τ) (ms 3 t) fullShare Y)
    ∗ (∃ Z, ⌜(T.rdat c).Finds 4 t Z⌝ ∗ owns (c : Thread nD τ) (ms 4 t) fullShare Z))

/-- What it gives back. -/
def Track.post (c : Dev nD) (t : Fin cfg0.N) : sProp 𝕄 :=
  iprop((T.dat c).Φ t.succ ∗ (T.dat c).owesAt () t.succ
    ∗ owns (c : Thread nD τ) (ms 0 t) fullShare (iblk m c 0 t)
    ∗ owns (c : Thread nD τ) (ms 1 t) fullShare (iblk m c 1 t)
    ∗ owns (c : Thread nD τ) (ms 2 t) fullShare (iblk m c 2 t)
    ∗ (∃ X, ⌜T.Out c t X⌝ ∗ owns (c : Thread nD τ) (ms 3 t) fullShare X)
    ∗ (∃ X, ⌜T.OutB c t X⌝ ∗ owns (c : Thread nD τ) (ms 4 t) fullShare X))

/-- What the body finds in the gates' buffer. -/
theorem Track.finds (c : Dev nD) (t : Fin cfg0.N) (Z : Vec F S2048x128 .f32) (h : (T.rdat c).Finds 4 t Z) (ht : t.val ≠ 0) :
    (cfg0.win 4).flush ⟨t.val - 1, Nat.lt_of_le_of_lt (Nat.sub_le _ _) t.isLt⟩ = true
      ∨ T.OutB c ⟨t.val - 1, Nat.lt_of_le_of_lt (Nat.sub_le _ _) t.isLt⟩ Z :=
  (((T.rdat c).finds_of_pos (w := 4) rfl ht Z).mp h).imp id fun h => (T.dat c).toRRel_leaves (w := 4) rfl h

set_option maxHeartbeats 2000000 in
theorem Track.body (c : Dev nD) (t : Fin cfg0.N) :
    T.pre c t ⊢ wp frame (wpE (defs₀ (F := F)) Variants.none c none) Set.univ (bodyAt0 t) (fun _ => T.post c t) := by
  unfold Track.pre Track.post bodyAt0
  simp only [T.before0, T.before1, T.before2]
  rw [show (T.dat c).owesAt () t.succ = (T.dat c).owesAt () t.castSucc from rfl,
    show (T.dat c).Φ t.succ = (T.dat c).Φ t.castSucc from rfl]
  iintro ⟨HΦ, Ho, ⟨%d0, H0⟩, ⟨%d1, H1⟩, ⟨%d2, H2⟩, ⟨%Y, %hY, H3⟩, ⟨%Z, %hZ, H4⟩⟩
  have hstep := T.step c t Z (T.finds c t Z hZ)
  iapply (run_point c t _ _ _ _ _ _ _ _ _ _ (iblk m c 0 t) (iblk m c 1 t) (iblk m c 2 t) Y Z Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _
    isplitr; · ipureintro; exact hstep.1
    iexact H3
  iexists _
  isplitr; · ipureintro; exact hstep.2
  iexact H4

theorem body_row (t : Fin cfg0.N) :
    defs₀ (F := F) .tc cfg0.body (cfg0.bodyArgs t (cfg0.slots t)) = bodyAt0 t := by
  unfold defs₀; rw [Defs.onTc_tc]

theorem Track.obligation (c : Dev nD) :
    Pipeline.BodyObligationRel (T.dat c) (defs₀ (F := F)) Variants.none () Set.univ held (T.out c) := fun t => by
  rw [bigSep_W0, bigSep_W0, body_row]
  exact triple_restated (T.body c t) rfl .rfl fun _ => .rfl

/-- What holds when the program has ended: the staged arrays as the proof data has them, every other buffer as the region
    found it. -/
abbrev Track.End : PUnit × MemSt nD τ sig (Elt F) → Prop := Pipeline.RDat.FramePost (cfgs 0) T.rdat (V m)

set_option backward.isDefEq.respectTransparency.types false in
/-- The whole run. -/
theorem Track.run : θ_run defs (onTc (τ := τ) (main (F := F))) (s₀ m ρ) (fun r => T.End r ∧ r.2.sem = fun _ => 0) :=
  Pipeline.RDat.θ_run_frame_track (Q' := _) cfgs (0 : Fin 1) launch0 defs₀ Variants.none T.rdat m ρ main
    (hbody := fun c => (T.obligation c).toRRel) (hshare := fun c => (T.dat c).share_full fun _ => rfl)
    (howed := fun _ _ => rfl) (V := V m) (hmain := hmain m Variants.none) (hA := T.A_eq) (hin := fun _ => .rfl) (hout := fun _ => .rfl)
    (hQ' := fun _ h => h)

include T in
/-- The arguments end unchanged. -/
theorem Track.frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(Pipeline.RDat.FramePost.arr_in h.1 c 0 rfl).trans ((T.A_eq c 0).trans (V_main_arg0 m c)),
     (h.1 c).2 main_arg1 (Pipeline.mem_restRefs_of main_arg1 (by decide) (by decide)) |>.trans (V_main_arg1 m c)⟩, h.2⟩)
    (T.run ρ)

/-- Nothing tracked. -/
def Track.any : Track m := ⟨fun _ _ _ => True, fun _ _ _ => True, fun _ _ _ _ => ⟨trivial, trivial⟩⟩

end Cert.Kernel5Ideal.Proj

end
-- ==== Proof.Proj.Left.lean ====
/- The value of the left part of the input projection (`Kernel5Ideal`) at the extended reals: the query, key and value columns are
   the reference's product of the tokens and the weight, and the gates' block holds its eight gate columns and zeros beside them. -/
module

public import proofs.«01_k».proof.Proof.Proj.Track
public import proofs.«01_k».proof.Proof.Gen.Reference5Ideal
public import Idealize.ShloMosaic.Lib.Pipeline.ValueKit
public import Idealize.ShloMosaic.Lib.Pipeline.ArrRel
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Proj

open Cert.Kernel5Ideal Cert.Kernel5Ideal.Gen

section Ref

/-- The product of the tokens and the whole weight. -/
abbrev PROD (x : FVec Ideal Cert.Reference5Ideal.S32768x2048 .bf16) (w : FVec Ideal Cert.Reference5Ideal.S2048x11272 .f32) :
    FVec Ideal Cert.Reference5Ideal.S32768x11272 .f32 :=
  Host.dotGeneral Cert.Reference5Ideal.dot_S32768x2048_S2048x11272_S32768x11272_1_0_0_1_n_n none (extf .f32 x Cert.Reference5Ideal.Gen.bitsLt_bf16_f32) w

/-- The reference's first result: the first 4096 columns, rounded. -/
abbrev REF (x : FVec Ideal Cert.Reference5Ideal.S32768x2048 .bf16) (w : FVec Ideal Cert.Reference5Ideal.S2048x11272 .f32) :
    FVec Ideal Cert.Reference5Ideal.S32768x4096 .bf16 :=
  truncf .bf16 (extractStridedSlice Cert.Reference5Ideal.S32768x4096 ![0, 0] (PROD x w) Cert.Reference5Ideal.Gen.slices_S32768x11272_S32768x4096_0_0)
    Cert.Reference5Ideal.Gen.bitsLt_bf16_f32

/-- The reference's second result: the eight gate columns, widened with zeros. -/
abbrev REFB (x : FVec Ideal Cert.Reference5Ideal.S32768x2048 .bf16) (w : FVec Ideal Cert.Reference5Ideal.S2048x11272 .f32) :
    FVec Ideal Cert.Reference5Ideal.S32768x128 .f32 :=
  pad Cert.Reference5Ideal.S32768x128 ![0, 0] ![0, 120] ![0, 0]
    (extractStridedSlice Cert.Reference5Ideal.S32768x8 ![0, 4096] (PROD x w) Cert.Reference5Ideal.Gen.slices_S32768x11272_S32768x8_0_4096)
    (sitofp .f32 (constantI Cert.Reference5Ideal.S_ 32 0#32) : FVec Ideal Cert.Reference5Ideal.S_ .f32)
    Cert.Reference5Ideal.Gen.pads_S32768x8_S32768x128_000_01200 Cert.Reference5Ideal.Gen.h_S_

/-- A gate column of the second result. -/
theorem REFB_gate (x : FVec Ideal Cert.Reference5Ideal.S32768x2048 .bf16) (w : FVec Ideal Cert.Reference5Ideal.S2048x11272 .f32)
    (r : Fin 32768) (j : Fin 128) (hj : j.val < 8) :
    REFB x w (ix2 r j) = ∑ d : Fin 2048, x (ix2 r d) * w (ix2 d ⟨4096 + j.val, by omega⟩) := by
  refine Eq.trans (pad_apply_of_inside _ _ _ _ _ _ _ _ (ix2 r ⟨j.val, hj⟩) fun a => ?_) ?_
  · match a with
    | 0 => show r.val = 0 + r.val * (0 + 1); omega
    | 1 => show j.val = 0 + j.val * (0 + 1); omega
  · pointwise []

/-- A column beside the gates. -/
theorem REFB_zero (x : FVec Ideal Cert.Reference5Ideal.S32768x2048 .bf16) (w : FVec Ideal Cert.Reference5Ideal.S2048x11272 .f32)
    (r : Fin 32768) (j : Fin 128) (hj : ¬ j.val < 8) : REFB x w (ix2 r j) = 0 := by
  refine Eq.trans (pad_apply_of_not_inside _ _ _ _ _ _ _ _ (1 : Fin 2) fun h => hj ?_) ?_
  · have h2 : (j.val - 0) / (0 + 1) < 8 := h.2.2
    omega
  · pointwise []
    show (((0#32 : BitVec 32).toInt : ℝ) : EReal) = 0
    simp

end Ref

variable (m : (ℓ : Loc nD τ sig) → Buf (Elt Ideal) ℓ)

/-- Which block each window reads or writes at a grid point: four column blocks for each block of rows. -/
theorem blocks : ∀ t : Fin cfg0.N, win0_0.index t = ![t.val / 4, 0] ∧ win0_1.index t = ![0, t.val % 4]
    ∧ win0_2.index t = ![0, 0] ∧ win0_3.index t = ![t.val / 4, t.val % 4] ∧ win0_4.index t = ![t.val / 4, 0] :=
  (by decide +kernel : ∀ t : Fin grid0.N, _)

/-- When the gates' block is written back. -/
theorem flushes : ∀ t : Fin cfg0.N, (cfg0.win 4).flush t = true → t.val % 4 = 3 :=
  (by decide +kernel : ∀ t : Fin grid0.N, (cfg0.win 4).flush t = true → t.val % 4 = 3)

/-- The reference's first result over the kernel's arguments. -/
abbrev ref (c : Dev nD) : FVec Ideal Cert.Reference5Ideal.S32768x4096 .bf16 :=
  REF (m ((c : Thread nD τ).loc main_arg0)) (m ((c : Thread nD τ).loc main_arg1))

/-- The reference's second result over the kernel's arguments. -/
abbrev refB (c : Dev nD) : FVec Ideal Cert.Reference5Ideal.S32768x128 .f32 :=
  REFB (m ((c : Thread nD τ).loc main_arg0)) (m ((c : Thread nD τ).loc main_arg1))

set_option maxHeartbeats 1600000 in
/-- What the body stores at a cell of the first result's block is the reference at the cell of the array where it sits. -/
theorem cell (c : Dev nD) (t : Fin cfg0.N) (y) :
    k0_pay2 (iblk m c 0 t) (iblk m c 1 t) y = ref m c (((cfg0.win 3).blk t).view.emb y) := by
  unfold ref
  pointwise [k0_pay2, REF, PROD]
  blk_point [iblk, V, blocks t]

theorem pay1_at (x : Vec Ideal S2048x2048 .bf16) (g : Vec Ideal S2048x128 .bf16) (y0 : Fin 2048) (y1 : Fin 128) :
    k0_pay1 x g (ix2 y0 y1) = ∑ d : Fin 2048, x (ix2 y0 d) * g (ix2 d y1) := by
  pointwise [k0_pay1]

theorem x_at (c : Dev nD) (t : Fin cfg0.N) (y0 d : Fin 2048) :
    iblk m c 0 t (ix2 y0 d) = m ((c : Thread nD τ).loc main_arg0)
      (ix2 ⟨2048 * (t.val / 4) + y0.val, by have := t.isLt; have e : cfg0.N = 64 := by decide
                                            have := y0.isLt; omega⟩ d) := by
  blk_point [iblk, V, blocks t]

/-- The gates' weight as the region finds it. -/
abbrev gw (c : Dev nD) : Vec Ideal S2048x128 .bf16 :=
  concatenate S2048x128 1 [⟨S2048x8, (truncf .bf16 (extractStridedSlice S2048x8 ![0, 4096]
      (m ((c : Thread nD τ).loc main_arg1) : FVec Ideal S2048x11272 .f32) slices_S2048x11272_S2048x8_0_4096) bitsLt_bf16_f32 : FVec Ideal S2048x8 .bf16)⟩,
    ⟨S2048x120, broadcastInDim S2048x120 ![] bcast_S_S2048x120 (constant S_ .bf16 0x0000#16 : FVec Ideal S_ .bf16)⟩]
    concatenates_S2048x8_S2048x120_S2048x128_d1

theorem g_at (c : Dev nD) (t : Fin cfg0.N) (d : Fin 2048) (j : Fin 128) : iblk m c 2 t (ix2 d j) = gw m c (ix2 d j) := by
  blk_point [iblk, V, blocks t]

theorem gw_gate (c : Dev nD) (d : Fin 2048) (j : Fin 128) (hj : j.val < 8) :
    gw m c (ix2 d j) = m ((c : Thread nD τ).loc main_arg1) (ix2 d ⟨4096 + j.val, by omega⟩) := by
  refine Eq.trans (concatenate_pair_apply_left (t := S2048x128) (s₁ := S2048x8) (s₂ := S2048x120) 1 _ _ _ _ rfl (ix2 d ⟨j.val, hj⟩) fun b => ?_) ?_
  · match b with
    | 0 => rfl
    | 1 => rfl
  · pointwise []

theorem gw_zero (c : Dev nD) (d : Fin 2048) (j : Fin 128) (hj : ¬ j.val < 8) : gw m c (ix2 d j) = 0 := by
  refine Eq.trans (concatenate_pair_apply_right (t := S2048x128) (s₁ := S2048x8) (s₂ := S2048x120) 1 _ _ _ _ rfl rfl (ix2 d ⟨j.val - 8, by omega⟩) (fun b hb => ?_) ?_) ?_
  · match b with
    | ⟨0, _⟩ => rfl
    | ⟨1, _⟩ => exact absurd rfl hb
  · show j.val - 8 + 8 = j.val
    omega
  · show Ideal.ofBits FTy.bf16 0x0000#16 = 0
    simp [Ideal.ofBits, Ideal.ieee]

/-- The gates' block of a row block is the reference's. -/
theorem gates_at (c : Dev nD) (t : Fin cfg0.N) (y0 : Fin 2048) (y1 : Fin 128) :
    k0_pay1 (iblk m c 0 t) (iblk m c 2 t) (ix2 y0 y1)
      = refB m c (ix2 ⟨2048 * (t.val / 4) + y0.val, by have := t.isLt; have e : cfg0.N = 64 := by decide
                                                       have := y0.isLt; omega⟩ y1) := by
  rw [pay1_at]
  simp only [x_at, g_at]
  by_cases hj : y1.val < 8
  · refine Eq.trans ?_ (REFB_gate _ _ _ _ hj).symm
    exact Finset.sum_congr rfl fun d _ => by rw [gw_gate m c d y1 hj]
  · refine Eq.trans ?_ (REFB_zero _ _ _ _ hj).symm
    exact Finset.sum_eq_zero fun d _ => by rw [gw_zero m c d y1 hj, mul_zero]

/-- What the gates' buffer holds after point `t`: the reference's block of rows. -/
def Gates (c : Dev nD) (t : Fin cfg0.N) (X : Vec Ideal S2048x128 .f32) : Prop :=
  ∀ (y0 : Fin 2048) (y1 : Fin 128), X (ix2 y0 y1)
    = refB m c (ix2 ⟨2048 * (t.val / 4) + y0.val, by have := t.isLt; have e : cfg0.N = 64 := by decide
                                                     have := y0.isLt; omega⟩ y1)

/-- The property of the results' buffers that the grid's points keep. -/
def track : Track m where
  Out := fun c t X => X = k0_pay2 (iblk m c 0 t) (iblk m c 1 t)
  OutB := Gates m
  step := fun c t Z hZ => ⟨rfl, by
    unfold gatesNext
    by_cases h0 : t.val % 4 = 0
    · rw [if_pos h0]; exact gates_at m c t
    · rw [if_neg h0]
      rcases hZ (by omega) with hf | hg
      · have : (t.val - 1) % 4 = 3 := flushes _ hf
        omega
      · intro y0 y1
        rw [hg y0 y1]
        have e : (t.val - 1) / 4 = t.val / 4 := by omega
        exact congrArg (refB m c) (funext fun a => match a with
          | 0 => Fin.ext (by show 2048 * ((t.val - 1) / 4) + y0.val = 2048 * (t.val / 4) + y0.val; rw [e])
          | 1 => rfl)⟩

/-- The first result array after the run. -/
theorem result (r) (h : (track m).End r) (c : Dev nD) :
    r.2.mem ((c : Thread nD τ).loc main_v6_0) = ref m c := by
  obtain ⟨after, hl, harr⟩ := Pipeline.RDat.FramePost.exists_exact h c
  have hm := harr 3
  refine hm.trans ?_
  refine Dat.arrAt_eq_of_covers _ 3 _ (by decide +kernel) fun t hf y => ?_
  have hR : after 3 t = k0_pay2 (iblk m c 0 t) (iblk m c 1 t) :=
    Dat.toRRel_leaves ((track m).dat c) (w := 3) rfl (hl 3 t hf)
  refine Eq.trans ?_ (cell m c t y)
  exact congrFun hR y

/-- A block of the gates as it is written back, at a cell. -/
theorem blockB_ref (c : Dev nD) (t : Fin cfg0.N) (X : Vec Ideal S2048x128 .f32) (h : Gates m c t X)
    (y : S2048x128.Idx) : X y = refB m c (((cfg0.win 4).blk t).view.emb y) := by
  have e : ((cfg0.win 4).blk t).view.emb y = ix2 ⟨2048 * (t.val / 4) + (y 0).val, by
      have := t.isLt; have e : cfg0.N = 64 := by decide
      have : (y 0).val < 2048 := (y 0).isLt; omega⟩ (y 1) := by
    blk_ext! [blocks t]
  rw [e]
  refine Eq.trans ?_ (h (y 0) (y 1))
  exact congrArg X (funext fun a => match a with | 0 => rfl | 1 => rfl)

/-- The second result array after the run. -/
theorem resultB (r) (h : (track m).End r) (c : Dev nD) :
    r.2.mem ((c : Thread nD τ).loc main_v6_1) = refB m c := by
  obtain ⟨after, hl, harr⟩ := Pipeline.RDat.FramePost.exists_exact h c
  have hm := harr 4
  refine hm.trans ?_
  refine Dat.arrAt_eq_of_covers _ 4 _ (by decide +kernel) fun t hf y => ?_
  have hR : Gates m c t (after 4 t) := Dat.toRRel_leaves ((track m).dat c) (w := 4) rfl (hl 4 t hf)
  exact blockB_ref m c t _ hR y

/-- The whole run: the results are the reference's, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v6_0) = ref m c
      ∧ r.2.mem ((c.tc : Thread nD τ).loc main_v6_1) = refB m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and ((track m).run ρ) ((track m).frame ρ)) fun r h c => ⟨result m r h.1.1 c, resultB m r h.1.1 c, h.2.1 c⟩

end Cert.Kernel5Ideal.Proj

end
-- ==== Proof.Proj.Right.lean ====
/- The value of the right part of the input projection (`Kernel6Ideal`) at the extended reals: each block that it leaves is
   the same block of the reference's product of the tokens and the weight, columns 4104 and up. -/
module

public import proofs.«01_k».proof.Proof.Gen.Kernel6Ideal.Frame
public import proofs.«01_k».proof.Proof.Gen.Reference6Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Proj

open Cert.Kernel6Ideal Cert.Kernel6Ideal.Gen

variable (m : (ℓ : Loc nD τ sig) → Buf (Elt Ideal) ℓ)

/-- The reference's result over its arguments: the columns from 4104 on of `x @ w`. -/
abbrev REF (x : FVec Ideal Cert.Reference6Ideal.S32768x2048 .bf16) (w : FVec Ideal Cert.Reference6Ideal.S2048x11272 .f32) :
    FVec Ideal Cert.Reference6Ideal.S32768x7168 .bf16 :=
  truncf .bf16 (extractStridedSlice Cert.Reference6Ideal.S32768x7168 ![0, 4104]
    (Host.dotGeneral Cert.Reference6Ideal.dot_S32768x2048_S2048x11272_S32768x11272_1_0_0_1_n_n none
      (extf .f32 x Cert.Reference6Ideal.Gen.bitsLt_bf16_f32) w : FVec Ideal Cert.Reference6Ideal.S32768x11272 .f32)
    Cert.Reference6Ideal.Gen.slices_S32768x11272_S32768x7168_0_4104) Cert.Reference6Ideal.Gen.bitsLt_bf16_f32

/-- Which block each window reads or writes at a grid point: seven column blocks for each block of rows. -/
theorem blocks : ∀ t : Fin cfg0.N, win0_0.index t = ![t.val / 7, 0] ∧ win0_1.index t = ![0, t.val % 7]
    ∧ win0_2.index t = ![t.val / 7, t.val % 7] :=
  (by decide +kernel : ∀ t : Fin grid0.N, _)

/-- A row block and a column block number the points of the grid. -/
theorem covered : ∀ (p : Fin 16) (q : Fin 7), p.val * 7 + q.val < cfg0.N :=
  (by decide +kernel : ∀ (p : Fin 16) (q : Fin 7), p.val * 7 + q.val < grid0.N)

set_option maxHeartbeats 1600000 in
/-- What the body stores at a cell of its block is the reference at the cell of the array where it sits. -/
theorem cell (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, blocks t]

/-- The result array after the run. -/
theorem result (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact cell m c t y

end Cert.Kernel6Ideal.Proj

end
-- ==== Proof.Mlstm.Reference.lean ====
/- The mLSTM recurrence's reference: it ends, and leaves its five arguments as they were. Its program is a stretch of
   operations, a loop of 128 trips over the blocks of the sequence, and a second stretch; none of the three writes an
   argument. -/
module

public import proofs.«01_k».proof.Proof.Gen.Reference7Ideal
public import proofs.«01_k».proof.Proof.Gen.Reference7Ideal.Run
public import proofs.«01_k».proof.Defs
public import Idealize.ShloMosaic.Lib.Claim
public import Idealize.ShloMosaic.Adequacy

@[expose] public section

noncomputable section

namespace Cert.Reference7Ideal.Mlstm

open Idealize.ShloMosaic Idealize.ShloMosaic.TcCoe Idealize.ShloMosaic.StableHlo Idealize.SL.Sem
open Cert.Reference7Ideal Cert.Reference7Ideal.Gen Cert.Reference7Ideal.Value

variable {F : FTy → Type} [FloatOps F]

/-- What the stretch after the loop writes, in order. -/
abbrev tailWrites : List (Ref sig .tc) :=
  [main_v75, main_v76, main_v77, main_v78, main_cst_6, main_v79, main_v80, main_cst_7, main_v81, main_v82, main_v83,
   main_v84, main_v85, main_cst_8, main_v86, main_v87, main_cst_9, main_v88, main_v89, main_v90, main_v91, main_cst_10,
   main_v92, main_v93, main_v94, main_v95, main_v96, main_v97, main_v98, main_v99, main_v100, main_v101, main_v102,
   main_cst_11, main_v103, main_v104, main_cst_12, main_v105, main_v106, main_v107, main_v108]

set_option maxRecDepth 100000 in
theorem tail_writes : (hostOps0_9 : List (HloOp τ sig (Elt F))).Forall fun op =>
    op.writes ⊆ (tailWrites.map (Proc.devRef (τ := τ) .tc)).toFinset :=
  forall_writes_sub_of_map rfl

/-- `b` is none of the buffers that the program writes. -/
structure Unwritten (b : Ref sig .tc) : Prop where
  p0 : b ∉ hostOps0_W
  p1 : b ∉ hostOps0_1_W
  p2 : b ∉ hostOps0_2_W
  p3 : b ∉ hostOps0_3_W
  p4 : b ∉ hostOps0_4_W
  p5 : b ∉ hostOps0_5_W
  p6 : b ∉ hostOps0_6_W
  p7 : b ∉ hostOps0_7_W
  p8 : b ∉ hostOps0_8_W
  q0 : b ∉ while0Ops0_W
  q1 : b ∉ while0Ops0_1_W
  q2 : b ∉ while0Ops0_2_W
  q3 : b ∉ while0Ops0_3_W
  q4 : b ∉ while0Ops0_4_W
  q5 : b ∉ while0Ops0_5_W
  q6 : b ∉ while0Ops0_6_W
  q7 : b ∉ while0Ops0_7_W
  q8 : b ∉ while0Ops0_8_W
  q9 : b ∉ while0Ops0_9_W
  q10 : b ∉ while0Ops0_10_W
  cond : b ∉ condOps_W
  tail : b ∉ tailWrites

variable {b : Ref sig .tc}

/-- The stretch before the loop leaves such a buffer. -/
theorem Unwritten.pre (h : Unwritten b) (V : Valuation τ sig (Elt F)) :
    afterL preI V (Proc.devRef .tc b) = V (Proc.devRef .tc b) := by
  simp only [preI, afterL_cons, afterL_nil]
  rw [after_of_writes_sub _ _ hostOps0_8_writes h.p8, after_of_writes_sub _ _ hostOps0_7_writes h.p7,
    after_of_writes_sub _ _ hostOps0_6_writes h.p6, after_of_writes_sub _ _ hostOps0_5_writes h.p5,
    after_of_writes_sub _ _ hostOps0_4_writes h.p4, after_of_writes_sub _ _ hostOps0_3_writes h.p3,
    after_of_writes_sub _ _ hostOps0_2_writes h.p2, after_of_writes_sub _ _ hostOps0_1_writes h.p1,
    after_of_writes_sub _ _ hostOps0_writes h.p0]

/-- One trip leaves such a buffer. -/
theorem Unwritten.trip (h : Unwritten b) (V : Valuation τ sig (Elt F)) :
    afterL bodyI V (Proc.devRef .tc b) = V (Proc.devRef .tc b) := by
  simp only [bodyI, afterL_cons, afterL_nil]
  rw [after_of_writes_sub _ _ while0Ops0_10_writes h.q10, after_of_writes_sub _ _ while0Ops0_9_writes h.q9,
    after_of_writes_sub _ _ while0Ops0_8_writes h.q8, after_of_writes_sub _ _ while0Ops0_7_writes h.q7,
    after_of_writes_sub _ _ while0Ops0_6_writes h.q6, after_of_writes_sub _ _ while0Ops0_5_writes h.q5,
    after_of_writes_sub _ _ while0Ops0_4_writes h.q4, after_of_writes_sub _ _ while0Ops0_3_writes h.q3,
    after_of_writes_sub _ _ while0Ops0_2_writes h.q2, after_of_writes_sub _ _ while0Ops0_1_writes h.q1,
    after_of_writes_sub _ _ while0Ops0_writes h.q0]

/-- The loop's test leaves such a buffer. -/
theorem Unwritten.test (h : Unwritten b) (V : Valuation τ sig (Elt F)) :
    after condOps V (Proc.devRef .tc b) = V (Proc.devRef .tc b) :=
  after_of_writes_sub _ _ condOps_writes h.cond

variable (m : (ℓ : Loc nD τ sig) → Buf (Elt F) ℓ)

/-- Any number of trips leaves such a buffer. -/
theorem Unwritten.trips (h : Unwritten b) (c : Dev nD) : ∀ k : ℕ,
    atK m k c (Proc.devRef .tc b) = m ((c.tc : Thread nD τ).loc b)
  | 0 => h.pre _
  | k + 1 => by
    rw [show atK m (k + 1) c = afterL bodyI (after condOps (atK m k c)) from rfl, h.trip, h.test]
    exact h.trips c k

/-- The whole program leaves such a buffer. -/
theorem Unwritten.kept (h : Unwritten b) (c : Dev nD) :
    finalContents condOps preI bodyI postI 128 m c (Proc.devRef .tc b) = m ((c.tc : Thread nD τ).loc b) := by
  show after hostOps0_9 (after condOps (atK m 128 c)) (Proc.devRef .tc b) = _
  rw [after_of_writes_sub _ _ tail_writes h.tail, h.test]
  exact h.trips m c 128

theorem arg0 : Unwritten main_arg0 := by constructor <;> decide +kernel
theorem arg1 : Unwritten main_arg1 := by constructor <;> decide +kernel
theorem arg2 : Unwritten main_arg2 := by constructor <;> decide +kernel
theorem arg3 : Unwritten main_arg3 := by constructor <;> decide +kernel
theorem arg4 : Unwritten main_arg4 := by constructor <;> decide +kernel

/-- The reference ends with its arguments unchanged. -/
theorem frame : Cert.quiescent_Reference7Ideal := fun m g _ =>
  θ_run_mono (run_fold m g) fun r h => ⟨fun c =>
    ⟨(h c main_arg0 rfl).trans (arg0.kept m c), (h c main_arg1 rfl).trans (arg1.kept m c),
     (h c main_arg2 rfl).trans (arg2.kept m c), (h c main_arg3 rfl).trans (arg3.kept m c),
     (h c main_arg4 rfl).trans (arg4.kept m c)⟩, sem_eq_zero_of_no_sems (by decide) _⟩

end Cert.Reference7Ideal.Mlstm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Ffn.Value
public import proofs.«01_k».proof.Proof.FfnBits.Track
public import proofs.«01_k».proof.Proof.Ffn1.Value
public import proofs.«01_k».proof.Proof.Ffn1Bits.Track
public import proofs.«01_k».proof.Proof.Merge.Value
public import proofs.«01_k».proof.Proof.MergeBits.Track
public import proofs.«01_k».proof.Proof.Ple.Value
public import proofs.«01_k».proof.Proof.Proj.Left
public import proofs.«01_k».proof.Proof.ProjBits.Track
public import proofs.«01_k».proof.Proof.Proj.Right
public import proofs.«01_k».proof.Proof.Mlstm.Reference
public import Idealize.ShloMosaic.Lib.Claim
public import Idealize.ShloMosaic.Adequacy
public import Idealize.ShloMosaic.Init

@[expose] public section

noncomputable section

namespace Cert.Proof

open Idealize.ShloMosaic Idealize.SL.Sem

/-- The second feed-forward layer: kernel and reference end with equal results. -/
theorem ffn2_value : Cert.algebraic_KernelIdeal_ReferenceIdeal := by
  pair_intro
  · run_from Cert.KernelIdeal.Ffn.run_value m g
  · hlo_run
    rfl

/-- The second feed-forward layer: the reference runs and leaves its arguments. -/
theorem ffn2_reference : Cert.quiescent_ReferenceIdeal := by
  intro m g _
  hlo_run
  · exact fun _ => ⟨trivial, trivial, trivial, trivial, trivial, trivial⟩
  · refine sem_eq_zero_of_no_sems ?_ _
    decide

/-- The first feed-forward layer: kernel and reference end with equal results. -/
theorem ffn1_value : Cert.algebraic_Kernel2Ideal_Reference2Ideal := by
  pair_intro
  · run_from Cert.Kernel2Ideal.Ffn.run_value m g
  · hlo_run
    all_goals rfl

/-- The first feed-forward layer: the reference runs and leaves its arguments. -/
theorem ffn1_reference : Cert.quiescent_Reference2Ideal := by
  intro m g _
  hlo_run
  · exact fun _ => ⟨trivial, trivial, trivial, trivial, trivial, trivial⟩
  · refine sem_eq_zero_of_no_sems ?_ _
    decide

/-- The merge of the two mixers: kernel and reference end with equal results. -/
theorem merge_value : Cert.algebraic_Kernel3Ideal_Reference3Ideal := by
  pair_intro
  · run_from Cert.Kernel3Ideal.Merge.run_value m g
  · hlo_run
    all_goals rfl

/-- The merge of the two mixers: the reference runs and leaves its arguments. -/
theorem merge_reference : Cert.quiescent_Reference3Ideal := by
  intro m g _
  hlo_run
  · exact fun _ => ⟨trivial, trivial, trivial, trivial, trivial, trivial, trivial, trivial, trivial⟩
  · refine sem_eq_zero_of_no_sems ?_ _
    decide

/-- The embedding update: kernel and reference end with equal results. -/
theorem ple_value : Cert.algebraic_Kernel4Ideal_Reference4Ideal := by
  pair_intro
  · run_from Cert.Kernel4Ideal.Gen.run_main m g
  · hlo_run
    exact (Cert.Kernel4Ideal.Ple.result m c).symm

/-- The embedding update: the reference runs and leaves its arguments. -/
theorem ple_reference : Cert.quiescent_Reference4Ideal := by
  intro m g _
  hlo_run
  · exact fun _ => ⟨trivial, trivial, trivial, trivial⟩
  · refine sem_eq_zero_of_no_sems ?_ _
    decide

/-- The left part of the input projection: kernel and reference end with equal results. -/
theorem proj1_value : Cert.algebraic_Kernel5Ideal_Reference5Ideal := by
  pair_intro
  · run_from Cert.Kernel5Ideal.Proj.run_value m g
  · hlo_run
    all_goals rfl

/-- The left part of the input projection: the reference runs and leaves its arguments. -/
theorem proj1_reference : Cert.quiescent_Reference5Ideal := by
  intro m g _
  hlo_run
  · exact fun _ => ⟨trivial, trivial⟩
  · refine sem_eq_zero_of_no_sems ?_ _
    decide

/-- The right part of the input projection: kernel and reference end with equal results. -/
theorem proj2_value : Cert.algebraic_Kernel6Ideal_Reference6Ideal := by
  pair_intro
  · run_from Cert.Kernel6Ideal.Gen.run_main m g
  · hlo_run
    exact (Cert.Kernel6Ideal.Proj.result m c).symm

/-- The right part of the input projection: the reference runs and leaves its arguments. -/
theorem proj2_reference : Cert.quiescent_Reference6Ideal := by
  intro m g _
  hlo_run
  · exact fun _ => ⟨trivial, trivial⟩
  · refine sem_eq_zero_of_no_sems ?_ _
    decide

/-- The mLSTM recurrence: the reference runs and leaves its arguments. -/
theorem mlstm_reference : Cert.quiescent_Reference7Ideal :=
  Cert.Reference7Ideal.Mlstm.frame

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m ρ _ => (Cert.Kernel.Ffn.Track.any (m := m)).frame ρ,
    fun m ρ _ => (Cert.KernelIdeal.Ffn.Track.any (m := m)).frame ρ, ffn2_reference,
    fun m ρ _ => (Cert.Kernel2.Ffn.Track.any (m := m)).frame ρ,
    fun m ρ _ => (Cert.Kernel2Ideal.Ffn.Track.any (m := m)).frame ρ, ffn1_reference,
    fun m ρ _ => (Cert.Kernel3.Merge.Track.any (m := m)).frame ρ,
    fun m ρ _ => (Cert.Kernel3Ideal.Merge.Track.any (m := m)).frame ρ, merge_reference,
    fun m ρ _ => Cert.Kernel4.Gen.frame m ρ,
    fun m ρ _ => Cert.Kernel4Ideal.Gen.frame m ρ, ple_reference,
    fun m ρ _ => (Cert.Kernel5.Proj.Track.any (m := m)).frame ρ,
    fun m ρ _ => (Cert.Kernel5Ideal.Proj.Track.any (m := m)).frame ρ, proj1_reference,
    fun m ρ _ => Cert.Kernel6.Gen.frame m ρ,
    fun m ρ _ => Cert.Kernel6Ideal.Gen.frame m ρ, proj2_reference,
    fun m ρ _ => Cert.Kernel7.Gen.frame m ρ,
    fun m ρ _ => Cert.Kernel7Ideal.Gen.frame m ρ, mlstm_reference,
    trivial, ffn2_value, trivial, ffn1_value, trivial, merge_value, trivial, ple_value, trivial, proj1_value, trivial, proj2_value, trivial⟩

end Cert.Proof

end
